-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16x4096x256 : Shape := ⟨3, ![16, 4096, 256]⟩
abbrev S16x21x256 : Shape := ⟨3, ![16, 21, 256]⟩
abbrev S16x4096x3 : Shape := ⟨3, ![16, 4096, 3]⟩
abbrev S16x21x3 : Shape := ⟨3, ![16, 21, 3]⟩
abbrev S4 : Shape := ⟨1, ![4]⟩
abbrev S_ : Shape := ⟨0, ![]⟩
abbrev S256x512 : Shape := ⟨2, ![256, 512]⟩
abbrev S256 : Shape := ⟨1, ![256]⟩
abbrev S16x4096x21 : Shape := ⟨3, ![16, 4096, 21]⟩
abbrev S16x4096 : Shape := ⟨2, ![16, 4096]⟩
abbrev S16x4096x1 : Shape := ⟨3, ![16, 4096, 1]⟩
abbrev S16x21 : Shape := ⟨2, ![16, 21]⟩
abbrev S16x1x21 : Shape := ⟨3, ![16, 1, 21]⟩
abbrev S16x4096x4 : Shape := ⟨3, ![16, 4096, 4]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S16x21x256 : S_.BroadcastsInDim S16x21x256 (![] : Fin 0 → Fin S16x21x256.rank)
  reducesTo_S16x21x256_S_d0_1_2 : S16x21x256.ReducesTo [0, 1, 2] S_
  bcast_S_S16x4096x3 : S_.BroadcastsInDim S16x4096x3 (![] : Fin 0 → Fin S16x4096x3.rank)
  reducesTo_S16x4096x3_S_d0_1_2 : S16x4096x3.ReducesTo [0, 1, 2] S_
  bcast_S_S16x21x3 : S_.BroadcastsInDim S16x21x3 (![] : Fin 0 → Fin S16x21x3.rank)
  reducesTo_S16x21x3_S_d0_1_2 : S16x21x3.ReducesTo [0, 1, 2] S_
  bcast_S_S4 : S_.BroadcastsInDim S4 (![] : Fin 0 → Fin S4.rank)
  reducesTo_S4_S_d0 : S4.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S16x4096x21 : S_.BroadcastsInDim S16x4096x21 (![] : Fin 0 → Fin S16x4096x21.rank)
  reducesTo_S16x4096x3_S16x4096_d2 : S16x4096x3.ReducesTo [2] S16x4096
  bcast_S16x4096_S16x4096x1_0_1 : S16x4096.BroadcastsInDim S16x4096x1 (![0, 1] : Fin 2 → Fin S16x4096x1.rank)
  bcast_S16x4096x1_S16x4096x21_0_1_2 : S16x4096x1.BroadcastsInDim S16x4096x21 (![0, 1, 2] : Fin 3 → Fin S16x4096x21.rank)
  reducesTo_S16x21x3_S16x21_d2 : S16x21x3.ReducesTo [2] S16x21
  bcast_S16x21_S16x1x21_0_2 : S16x21.BroadcastsInDim S16x1x21 (![0, 2] : Fin 2 → Fin S16x1x21.rank)
  bcast_S16x1x21_S16x4096x21_0_1_2 : S16x1x21.BroadcastsInDim S16x4096x21 (![0, 1, 2] : Fin 3 → Fin S16x4096x21.rank)
  slices_S16x4096x21_S16x4096x4_0_0_0 : S16x4096x21.Slices ![0, 0, 0] S16x4096x4
  slices_S16x4096x21_S16x4096x4_0_0_1 : S16x4096x21.Slices ![0, 0, 1] S16x4096x4
  bcast_S_S16x4096x4 : S_.BroadcastsInDim S16x4096x4 (![] : Fin 0 → Fin S16x4096x4.rank)
  dot_S16x4096x3_S16x21x3_S16x4096x21_2_2_1_1_0_0_wf : DotDims.WF S16x4096x3 S16x21x3 S16x4096x21 [2] [2] [1] [1] [0] [0]

variable [Facts]

variable {F : FTy → Type} [FloatOps F]
def dot_S16x4096x3_S16x21x3_S16x4096x21_2_2_1_1_0_0 : DotDims S16x4096x3 S16x21x3 S16x4096x21 where
  lhsContracting := [2]
  rhsContracting := [2]
  lhsNonContracting := [1]
  rhsNonContracting := [1]
  lhsBatch := [0]
  rhsBatch := [0]
  wf := dot_S16x4096x3_S16x21x3_S16x4096x21_2_2_1_1_0_0_wf
def comparator_f32_i32_d2 : F .f32 × BitVec 32 → F .f32 × BitVec 32 → BitVec 1 :=
  fun l r =>
    let cst_17 := FloatOps.ofBits .f32 0x00000000#32
    let v59 := FloatOps.cmpf .oeq l.1 cst_17
    let cst_18 := FloatOps.ofBits .f32 0x00000000#32
    let v60 := Scalar.select v59 cst_18 l.1
    let v61 := FloatOps.cmpf .une l.1 l.1
    let cst_19 := FloatOps.ofBits .f32 0x7FC00000#32
    let v62 := Scalar.select v61 cst_19 v60
    let cst_20 := FloatOps.ofBits .f32 0x00000000#32
    let v63 := FloatOps.cmpf .oeq r.1 cst_20
    let cst_21 := FloatOps.ofBits .f32 0x00000000#32
    let v64 := Scalar.select v63 cst_21 r.1
    let v65 := FloatOps.cmpf .une r.1 r.1
    let cst_22 := FloatOps.ofBits .f32 0x7FC00000#32
    let v66 := Scalar.select v65 cst_22 v64
    let v67 := FloatOps.cmpfTotal .lt v62 v66
    v67

def fn_part3 {F : FTy → Type} [FloatOps F] (main_v27 : IVec S_ 1) (main_v31 : IVec S_ 1) (main_v46_0 : FVec F S16x4096x21 .f32) (main_v51 : IVec S_ 1) : IVec S16x4096x4 1 :=
  let main_v52 : IVec S_ 1 := andi main_v51 main_v27
  let main_v53 : IVec S_ 1 := andi main_v52 main_v31
  let main_v54 : FVec F S16x4096x4 .f32 := (extractStridedSlice S16x4096x4 ![0, 0, 0] · slices_S16x4096x21_S16x4096x4_0_0_0) main_v46_0
  let main_v55 : FVec F S16x4096x4 .f32 := (extractStridedSlice S16x4096x4 ![0, 0, 1] · slices_S16x4096x21_S16x4096x4_0_0_1) main_v46_0
  let main_v56 : IVec S16x4096x4 1 := cmpf .olt main_v54 main_v55
  let main_v57 : IVec S16x4096x4 1 := broadcastInDim S16x4096x4 ![] bcast_S_S16x4096x4 main_v53
  let main_v58 : IVec S16x4096x4 1 := andi main_v57 main_v56
  main_v58

def fn_part2 {F : FTy → Type} [FloatOps F] (main_arg2 : FVec F S16x4096x3 .f32) (main_arg3 : FVec F S16x21x3 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S16x4096x4 1 :=
  let main_v32 : FVec F S16x4096x21 .f32 := (fun l r => Host.dotGeneral dot_S16x4096x3_S16x21x3_S16x4096x21_2_2_1_1_0_0 none l r) main_arg2 main_arg3
  let main_cst_14 : FVec F S_ .f32 := constant S_ .f32 0xC0000000#32
  let main_v33 : FVec F S16x4096x21 .f32 := broadcastInDim S16x4096x21 ![] bcast_S_S16x4096x21 main_cst_14
  let main_v34 : FVec F S16x4096x21 .f32 := mulf main_v33 main_v32
  let main_v35 : FVec F S16x4096x3 .f32 := mulf main_arg2 main_arg2
  let main_cst_15 : FVec F S_ .f32 := constant S_ .f32 0x00000000#32
  let main_v36 : FVec F S16x4096 .f32 := (fun x v => Host.reduceAdd x v reducesTo_S16x4096x3_S16x4096_d2 h_S_) main_v35 main_cst_15
  let main_v37 : FVec F S16x4096x1 .f32 := broadcastInDim S16x4096x1 ![0, 1] bcast_S16x4096_S16x4096x1_0_1 main_v36
  let main_v38 : FVec F S16x4096x21 .f32 := broadcastInDim S16x4096x21 ![0, 1, 2] bcast_S16x4096x1_S16x4096x21_0_1_2 main_v37
  let main_v39 : FVec F S16x4096x21 .f32 := addf main_v34 main_v38
  let main_v40 : FVec F S16x21x3 .f32 := mulf main_arg3 main_arg3
  let main_cst_16 : FVec F S_ .f32 := constant S_ .f32 0x00000000#32
  let main_v41 : FVec F S16x21 .f32 := (fun x v => Host.reduceAdd x v reducesTo_S16x21x3_S16x21_d2 h_S_) main_v40 main_cst_16
  let main_v42 : FVec F S16x1x21 .f32 := broadcastInDim S16x1x21 ![0, 2] bcast_S16x21_S16x1x21_0_2 main_v41
  let main_v43 : FVec F S16x4096x21 .f32 := broadcastInDim S16x4096x21 ![0, 1, 2] bcast_S16x1x21_S16x4096x21_0_1_2 main_v42
  let main_v44 : FVec F S16x4096x21 .f32 := addf main_v39 main_v43
  let main_v45 : IVec S16x4096x21 32 := iotaInDim S16x4096x21 32 2
  let main_v46_0 : FVec F S16x4096x21 .f32 := (fun x y => (Host.sort2 S16x4096x21 2 comparator_f32_i32_d2 x y).1) main_v44 main_v45
  let main_v46_1 : IVec S16x4096x21 32 := (fun x y => (Host.sort2 S16x4096x21 2 comparator_f32_i32_d2 x y).2) main_v44 main_v45
  let main_v47 : IVec S_ 1 := andi main_v3 main_v7
  let main_v48 : IVec S_ 1 := andi main_v47 main_v11
  let main_v49 : IVec S_ 1 := andi main_v48 main_v15
  let main_v50 : IVec S_ 1 := andi main_v49 main_v19
  let main_v51 : IVec S_ 1 := andi main_v50 main_v23
  fn_part3 (F := F) main_v27 main_v31 main_v46_0 main_v51

def fn_part1 {F : FTy → Type} [FloatOps F] (main_arg2 : FVec F S16x4096x3 .f32) (main_arg3 : FVec F S16x21x3 .f32) (main_arg4 : FVec F S4 .f32) (main_arg6 : FVec F S256x512 .f32) (main_arg7 : FVec F S256 .f32) (main_arg8 : FVec F S256 .f32) (main_v3 : IVec S_ 1) (main_v7 : IVec S_ 1) (main_v11 : IVec S_ 1) (main_v15 : IVec S_ 1) : IVec S16x4096x4 1 :=
  let main_v16 : FVec F S4 .f32 := Host.absf main_arg4
  let main_cst_6 : FVec F S_ .f32 := constant S_ .f32 0x7F800000#32
  let main_v17 : FVec F S4 .f32 := broadcastInDim S4 ![] bcast_S_S4 main_cst_6
  let main_v18 : IVec S4 1 := cmpf .olt main_v16 main_v17
  let main_c_7 : IVec S_ 1 := constantI S_ 1 1#1
  let main_v19 : IVec S_ 1 := (fun x v => Host.reduce IntOp.andi x v reducesTo_S4_S_d0 h_S_) main_v18 main_c_7
  let main_v20 : FVec F S256x512 .f32 := Host.absf main_arg6
  let main_cst_8 : FVec F S_ .f32 := constant S_ .f32 0x7F800000#32
  let main_v21 : FVec F S256x512 .f32 := broadcastInDim S256x512 ![] bcast_S_S256x512 main_cst_8
  let main_v22 : IVec S256x512 1 := cmpf .olt main_v20 main_v21
  let main_c_9 : IVec S_ 1 := constantI S_ 1 1#1
  let main_v23 : IVec S_ 1 := (fun x v => Host.reduce IntOp.andi x v reducesTo_S256x512_S_d0_1 h_S_) main_v22 main_c_9
  let main_v24 : FVec F S256 .f32 := Host.absf main_arg7
  let main_cst_10 : FVec F S_ .f32 := constant S_ .f32 0x7F800000#32
  let main_v25 : FVec F S256 .f32 := broadcastInDim S256 ![] bcast_S_S256 main_cst_10
  let main_v26 : IVec S256 1 := cmpf .olt main_v24 main_v25
  let main_c_11 : IVec S_ 1 := constantI S_ 1 1#1
  let main_v27 : IVec S_ 1 := (fun x v => Host.reduce IntOp.andi x v reducesTo_S256_S_d0 h_S_) main_v26 main_c_11
  let main_v28 : FVec F S256 .f32 := Host.absf main_arg8
  let main_cst_12 : FVec F S_ .f32 := constant S_ .f32 0x7F800000#32
  let main_v29 : FVec F S256 .f32 := broadcastInDim S256 ![] bcast_S_S256 main_cst_12
  let main_v30 : IVec S256 1 := cmpf .olt main_v28 main_v29
  let main_c_13 : IVec S_ 1 := constantI S_ 1 1#1
  let main_v31 : IVec S_ 1 := (fun x v => Host.reduce IntOp.andi x v reducesTo_S256_S_d0 h_S_) main_v30 main_c_13
  fn_part2 (F := F) main_arg2 main_arg3 main_v3 main_v7 main_v11 main_v15 main_v19 main_v23 main_v27 main_v31

def fn {F : FTy → Type} [FloatOps F] (main_arg0 : FVec F S16x4096x256 .f32) (main_arg1 : FVec F S16x21x256 .f32) (main_arg2 : FVec F S16x4096x3 .f32) (main_arg3 : FVec F S16x21x3 .f32) (main_arg4 : FVec F S4 .f32) (main_arg5 : FVec F S_ .f32) (main_arg6 : FVec F S256x512 .f32) (main_arg7 : FVec F S256 .f32) (main_arg8 : FVec F S256 .f32) (main_arg9 : FVec F S256 .f32) : IVec S16x4096x4 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x21x256 .f32 := Host.absf main_arg1
  let main_cst_0 : FVec F S_ .f32 := constant S_ .f32 0x7F800000#32
  let main_v5 : FVec F S16x21x256 .f32 := broadcastInDim S16x21x256 ![] bcast_S_S16x21x256 main_cst_0
  let main_v6 : IVec S16x21x256 1 := cmpf .olt main_v4 main_v5
  let main_c_1 : IVec S_ 1 := constantI S_ 1 1#1
  let main_v7 : IVec S_ 1 := (fun x v => Host.reduce IntOp.andi x v reducesTo_S16x21x256_S_d0_1_2 h_S_) main_v6 main_c_1
  let main_v8 : FVec F S16x4096x3 .f32 := Host.absf main_arg2
  let main_cst_2 : FVec F S_ .f32 := constant S_ .f32 0x7F800000#32
  let main_v9 : FVec F S16x4096x3 .f32 := broadcastInDim S16x4096x3 ![] bcast_S_S16x4096x3 main_cst_2
  let main_v10 : IVec S16x4096x3 1 := cmpf .olt main_v8 main_v9
  let main_c_3 : IVec S_ 1 := constantI S_ 1 1#1
  let main_v11 : IVec S_ 1 := (fun x v => Host.reduce IntOp.andi x v reducesTo_S16x4096x3_S_d0_1_2 h_S_) main_v10 main_c_3
  let main_v12 : FVec F S16x21x3 .f32 := Host.absf main_arg3
  let main_cst_4 : FVec F S_ .f32 := constant S_ .f32 0x7F800000#32
  let main_v13 : FVec F S16x21x3 .f32 := broadcastInDim S16x21x3 ![] bcast_S_S16x21x3 main_cst_4
  let main_v14 : IVec S16x21x3 1 := cmpf .olt main_v12 main_v13
  let main_c_5 : IVec S_ 1 := constantI S_ 1 1#1
  let main_v15 : IVec S_ 1 := (fun x v => Host.reduce IntOp.andi x v reducesTo_S16x21x3_S_d0_1_2 h_S_) main_v14 main_c_5
  fn_part1 (F := F) main_arg2 main_arg3 main_arg4 main_arg6 main_arg7 main_arg8 main_v3 main_v7 main_v11 main_v15
-- ==== Kernel.lean ====
abbrev S16x4096x256 : Shape := ⟨3, ![16, 4096, 256]⟩
abbrev S16x21x256 : Shape := ⟨3, ![16, 21, 256]⟩
abbrev S16x4096x3 : Shape := ⟨3, ![16, 4096, 3]⟩
abbrev S16x21x3 : Shape := ⟨3, ![16, 21, 3]⟩
abbrev S4 : Shape := ⟨1, ![4]⟩
abbrev S_ : Shape := ⟨0, ![]⟩
abbrev S256x512 : Shape := ⟨2, ![256, 512]⟩
abbrev S256 : Shape := ⟨1, ![256]⟩
abbrev S16x3x4096 : Shape := ⟨3, ![16, 3, 4096]⟩
abbrev S16x24x3 : Shape := ⟨3, ![16, 24, 3]⟩
abbrev S16x24x256 : Shape := ⟨3, ![16, 24, 256]⟩
abbrev S1 : Shape := ⟨1, ![1]⟩
abbrev S1x256 : Shape := ⟨2, ![1, 256]⟩
abbrev S8x256 : Shape := ⟨2, ![8, 256]⟩
abbrev S1x3x4096 : Shape := ⟨3, ![1, 3, 4096]⟩
abbrev S1x24x3 : Shape := ⟨3, ![1, 24, 3]⟩
abbrev S1x4096x256 : Shape := ⟨3, ![1, 4096, 256]⟩
abbrev S1x24x256 : Shape := ⟨3, ![1, 24, 256]⟩
abbrev S24x3 : Shape := ⟨2, ![24, 3]⟩
abbrev S3x4096 : Shape := ⟨2, ![3, 4096]⟩
abbrev S24x4096 : Shape := ⟨2, ![24, 4096]⟩
abbrev S1x4096 : Shape := ⟨2, ![1, 4096]⟩
abbrev S24x1 : Shape := ⟨2, ![24, 1]⟩
abbrev S4096 : Shape := ⟨1, ![4096]⟩
abbrev S24x256 : Shape := ⟨2, ![24, 256]⟩
abbrev S256x256 : Shape := ⟨2, ![256, 256]⟩
abbrev S4096x256 : Shape := ⟨2, ![4096, 256]⟩

abbrev nBuf : Space → Nat
  | .hbm => 26
  | .vmem => 20
  | .smem => 2
  | _ => 0

abbrev bufTy : (tb : Table) → Fin (tcTables nBuf tb) → BufTy
  | .hbm, ⟨0, _⟩ => ⟨S16x4096x256, .f32⟩
  | .hbm, ⟨1, _⟩ => ⟨S16x21x256, .f32⟩
  | .hbm, ⟨2, _⟩ => ⟨S16x4096x3, .f32⟩
  | .hbm, ⟨3, _⟩ => ⟨S16x21x3, .f32⟩
  | .hbm, ⟨4, _⟩ => ⟨S4, .f32⟩
  | .hbm, ⟨5, _⟩ => ⟨S_, .f32⟩
  | .hbm, ⟨6, _⟩ => ⟨S256x512, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S16x3x4096, .f32⟩
  | .hbm, ⟨11, _⟩ => ⟨S_, .i32⟩
  | .hbm, ⟨12, _⟩ => ⟨S_, .f32⟩
  | .hbm, ⟨13, _⟩ => ⟨S16x24x3, .f32⟩
  | .hbm, ⟨14, _⟩ => ⟨S_, .i32⟩
  | .hbm, ⟨15, _⟩ => ⟨S_, .f32⟩
  | .hbm, ⟨16, _⟩ => ⟨S16x24x256, .f32⟩
  | .hbm, ⟨17, _⟩ => ⟨S16x24x256, .bf16⟩
  | .hbm, ⟨18, _⟩ => ⟨S256x512, .bf16⟩
  | .hbm, ⟨19, _⟩ => ⟨S1, .f32⟩
  | .hbm, ⟨20, _⟩ => ⟨S1x256, .f32⟩
  | .hbm, ⟨21, _⟩ => ⟨S16x4096x256, .bf16⟩
  | .hbm, ⟨22, _⟩ => ⟨S8x256, .f32⟩
  | .hbm, ⟨23, _⟩ => ⟨S1x256, .f32⟩
  | .hbm, ⟨24, _⟩ => ⟨S1x256, .f32⟩
  | .hbm, ⟨25, _⟩ => ⟨S16x4096x256, .f32⟩
  | .local _ .vmem, ⟨0, _⟩ => ⟨S1x3x4096, .f32⟩
  | .local _ .vmem, ⟨1, _⟩ => ⟨S1x3x4096, .f32⟩
  | .local _ .vmem, ⟨2, _⟩ => ⟨S1x24x3, .f32⟩
  | .local _ .vmem, ⟨3, _⟩ => ⟨S1x24x3, .f32⟩
  | .local _ .vmem, ⟨4, _⟩ => ⟨S1x4096x256, .f32⟩
  | .local _ .vmem, ⟨5, _⟩ => ⟨S1x4096x256, .f32⟩
  | .local _ .vmem, ⟨6, _⟩ => ⟨S1x24x256, .bf16⟩
  | .local _ .vmem, ⟨7, _⟩ => ⟨S1x24x256, .bf16⟩
  | .local _ .vmem, ⟨8, _⟩ => ⟨S1x256, .f32⟩
  | .local _ .vmem, ⟨9, _⟩ => ⟨S256x512, .bf16⟩
  | .local _ .vmem, ⟨10, _⟩ => ⟨S1x4096x256, .bf16⟩
  | .local _ .vmem, ⟨11, _⟩ => ⟨S1x4096x256, .bf16⟩
  | .local _ .vmem, ⟨12, _⟩ => ⟨S8x256, .f32⟩
  | .local _ .vmem, ⟨13, _⟩ => ⟨S1x4096x256, .bf16⟩
  | .local _ .vmem, ⟨14, _⟩ => ⟨S1x4096x256, .bf16⟩
  | .local _ .vmem, ⟨15, _⟩ => ⟨S8x256, .f32⟩
  | .local _ .vmem, ⟨16, _⟩ => ⟨S1x256, .f32⟩
  | .local _ .vmem, ⟨17, _⟩ => ⟨S1x256, .f32⟩
  | .local _ .vmem, ⟨18, _⟩ => ⟨S1x4096x256, .f32⟩
  | .local _ .vmem, ⟨19, _⟩ => ⟨S1x4096x256, .f32⟩
  | .local _ .smem, ⟨0, _⟩ => ⟨S4, .f32⟩
  | .local _ .smem, ⟨1, _⟩ => ⟨S1, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_c : Ref sig .tc := ⟨.hbm, 11, rfl⟩
abbrev main_call0_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_call1_v0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7_0 : Ref sig .tc := ⟨.hbm, 21, rfl⟩
abbrev main_call0_v7_1 : Ref sig .tc := ⟨.hbm, 22, rfl⟩
abbrev main_call0_v8 : Ref sig .tc := ⟨.hbm, 23, rfl⟩
abbrev main_call0_v9 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x24x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .smem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev grid1 : Pipeline.Grid := ⟨2, ![16, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x4096x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S16x4096x256 : Shape := ⟨3, ![16, 4096, 256]⟩
abbrev S16x21x256 : Shape := ⟨3, ![16, 21, 256]⟩
abbrev S16x4096x3 : Shape := ⟨3, ![16, 4096, 3]⟩
abbrev S16x21x3 : Shape := ⟨3, ![16, 21, 3]⟩
abbrev S4 : Shape := ⟨1, ![4]⟩
abbrev S_ : Shape := ⟨0, ![]⟩
abbrev S256x512 : Shape := ⟨2, ![256, 512]⟩
abbrev S256 : Shape := ⟨1, ![256]⟩
abbrev S16x4096x21 : Shape := ⟨3, ![16, 4096, 21]⟩
abbrev S16x4096 : Shape := ⟨2, ![16, 4096]⟩
abbrev S16x4096x1 : Shape := ⟨3, ![16, 4096, 1]⟩
abbrev S16x21 : Shape := ⟨2, ![16, 21]⟩
abbrev S16x1x21 : Shape := ⟨3, ![16, 1, 21]⟩
abbrev S16x4096x4 : Shape := ⟨3, ![16, 4096, 4]⟩
abbrev S16x4096x4x1 : Shape := ⟨4, ![16, 4096, 4, 1]⟩
abbrev S1 : Shape := ⟨1, ![1]⟩
abbrev S1x1x1x1 : Shape := ⟨4, ![1, 1, 1, 1]⟩
abbrev S16x4096x4x3 : Shape := ⟨4, ![16, 4096, 4, 3]⟩
abbrev S16x4096x1x3 : Shape := ⟨4, ![16, 4096, 1, 3]⟩
abbrev S16x4096x4x4 : Shape := ⟨4, ![16, 4096, 4, 4]⟩
abbrev S16x4096x4x256 : Shape := ⟨4, ![16, 4096, 4, 256]⟩
abbrev S16x4096x512 : Shape := ⟨3, ![16, 4096, 512]⟩
abbrev S1x1x256 : Shape := ⟨3, ![1, 1, 256]⟩

abbrev nBuf : Space → Nat
  | .hbm => 146
  | .vmem => 0
  | .smem => 0
  | _ => 0

abbrev hbmTy0_0 (i : Nat) : BufTy := match i % 128 with
  | 0 => ⟨S16x4096x256, .f32⟩
  | 1 => ⟨S16x21x256, .f32⟩
  | 2 => ⟨S16x4096x3, .f32⟩
  | 3 => ⟨S16x21x3, .f32⟩
  | 4 => ⟨S4, .f32⟩
  | 5 => ⟨S_, .f32⟩
  | 6 => ⟨S256x512, .f32⟩
  | 7 => ⟨S256, .f32⟩
  | 8 => ⟨S256, .f32⟩
  | 9 => ⟨S256, .f32⟩
  | 10 => ⟨S16x4096x21, .f32⟩
  | 11 => ⟨S_, .f32⟩
  | 12 => ⟨S16x4096x21, .f32⟩
  | 13 => ⟨S16x4096x21, .f32⟩
  | 14 => ⟨S16x4096x3, .f32⟩
  | 15 => ⟨S_, .f32⟩
  | 16 => ⟨S16x4096, .f32⟩
  | 17 => ⟨S16x4096x1, .f32⟩
  | 18 => ⟨S16x4096x21, .f32⟩
  | 19 => ⟨S16x4096x21, .f32⟩
  | 20 => ⟨S16x21x3, .f32⟩
  | 21 => ⟨S_, .f32⟩
  | 22 => ⟨S16x21, .f32⟩
  | 23 => ⟨S16x1x21, .f32⟩
  | 24 => ⟨S16x4096x21, .f32⟩
  | 25 => ⟨S16x4096x21, .f32⟩
  | 26 => ⟨S16x4096x21, .i32⟩
  | 27 => ⟨S16x4096x21, .f32⟩
  | 28 => ⟨S16x4096x21, .i32⟩
  | 29 => ⟨S16x4096x4, .i32⟩
  | 30 => ⟨S_, .i32⟩
  | 31 => ⟨S16x4096x4, .i32⟩
  | 32 => ⟨S16x4096x4, .i1⟩
  | 33 => ⟨S_, .i32⟩
  | 34 => ⟨S16x4096x4, .i32⟩
  | 35 => ⟨S16x4096x4, .i32⟩
  | 36 => ⟨S16x4096x4, .i32⟩
  | 37 => ⟨S16x4096x4x1, .i32⟩
  | 38 => ⟨S1, .i32⟩
  | 39 => ⟨S_, .i32⟩
  | 40 => ⟨S16x4096x4x1, .i32⟩
  | 41 => ⟨S16x4096x4x1, .i1⟩
  | 42 => ⟨S1x1x1x1, .i32⟩
  | 43 => ⟨S16x4096x4x1, .i32⟩
  | 44 => ⟨S16x4096x4x1, .i1⟩
  | 45 => ⟨S16x4096x4x1, .i1⟩
  | 46 => ⟨S_, .i1⟩
  | 47 => ⟨S16x4096x4, .i1⟩
  | 48 => ⟨S16x4096x4, .f32⟩
  | 49 => ⟨S_, .f32⟩
  | 50 => ⟨S16x4096x4, .f32⟩
  | 51 => ⟨S16x4096x4, .f32⟩
  | 52 => ⟨S_, .i32⟩
  | 53 => ⟨S16x4096x4, .i32⟩
  | 54 => ⟨S16x4096x4, .i1⟩
  | 55 => ⟨S_, .i32⟩
  | 56 => ⟨S16x4096x4, .i32⟩
  | 57 => ⟨S16x4096x4, .i32⟩
  | 58 => ⟨S16x4096x4, .i32⟩
  | 59 => ⟨S16x4096x4x1, .i32⟩
  | 60 => ⟨S16x4096x4x3, .f32⟩
  | 61 => ⟨S16x4096x1x3, .f32⟩
  | 62 => ⟨S16x4096x4x3, .f32⟩
  | 63 => ⟨S16x4096x4x3, .f32⟩
  | 64 => ⟨S16x4096x4x1, .f32⟩
  | 65 => ⟨S16x4096x4x4, .f32⟩
  | 66 => ⟨S16x4096x4, .f32⟩
  | 67 => ⟨S16x4096x4, .f32⟩
  | 68 => ⟨S16x4096x4, .f32⟩
  | 69 => ⟨S16x4096x4, .f32⟩
  | 70 => ⟨S16x4096x4, .f32⟩
  | 71 => ⟨S_, .f32⟩
  | 72 => ⟨S16x4096x4, .f32⟩
  | 73 => ⟨S16x4096x4, .f32⟩
  | 74 => ⟨S_, .f32⟩
  | 75 => ⟨S16x4096x4, .f32⟩
  | 76 => ⟨S16x4096x4, .f32⟩
  | 77 => ⟨S_, .i32⟩
  | 78 => ⟨S16x4096x4, .i32⟩
  | 79 => ⟨S16x4096x4, .i1⟩
  | 80 => ⟨S_, .i32⟩
  | 81 => ⟨S16x4096x4, .i32⟩
  | 82 => ⟨S16x4096x4, .i32⟩
  | 83 => ⟨S16x4096x4, .i32⟩
  | 84 => ⟨S16x4096x4x1, .i32⟩
  | 85 => ⟨S16x4096x4x256, .f32⟩
  | 86 => ⟨S16x4096x4x1, .f32⟩
  | 87 => ⟨S16x4096x4x256, .f32⟩
  | 88 => ⟨S16x4096x4x256, .f32⟩
  | 89 => ⟨S_, .f32⟩
  | 90 => ⟨S16x4096x256, .f32⟩
  | 91 => ⟨S_, .f32⟩
  | 92 => ⟨S16x4096x256, .f32⟩
  | 93 => ⟨S16x4096x256, .f32⟩
  | 94 => ⟨S16x4096x512, .f32⟩
  | 95 => ⟨S16x4096x256, .f32⟩
  | 96 => ⟨S1x1x256, .f32⟩
  | 97 => ⟨S16x4096x256, .f32⟩
  | 98 => ⟨S16x4096x256, .f32⟩
  | 99 => ⟨S_, .f32⟩
  | 100 => ⟨S256, .f32⟩
  | 101 => ⟨S_, .f32⟩
  | 102 => ⟨S256, .f32⟩
  | 103 => ⟨S256, .f32⟩
  | 104 => ⟨S_, .i32⟩
  | 105 => ⟨S_, .f32⟩
  | 106 => ⟨S256, .f32⟩
  | 107 => ⟨S1x1x256, .f32⟩
  | 108 => ⟨S_, .f32⟩
  | 109 => ⟨S1x1x256, .f32⟩
  | 110 => ⟨S1x1x256, .f32⟩
  | 111 => ⟨S16x4096x256, .f32⟩
  | 112 => ⟨S16x4096x256, .f32⟩
  | 113 => ⟨S16x4096x256, .f32⟩
  | 114 => ⟨S_, .f32⟩
  | 115 => ⟨S_, .f32⟩
  | 116 => ⟨S_, .f32⟩
  | 117 => ⟨S_, .f32⟩
  | 118 => ⟨S256, .f32⟩
  | 119 => ⟨S256, .f32⟩
  | 120 => ⟨S256, .f32⟩
  | 121 => ⟨S_, .f32⟩
  | 122 => ⟨S_, .i1⟩
  | 123 => ⟨S_, .f32⟩
  | 124 => ⟨S_, .f32⟩
  | 125 => ⟨S256, .f32⟩
  | 126 => ⟨S256, .f32⟩
  | 127 => ⟨S1x1x256, .f32⟩
  | _ => ⟨S16x4096x256, .f32⟩

abbrev hbmTy0_1 (i : Nat) : BufTy := match i % 128 with
  | 0 => ⟨S16x4096x256, .f32⟩
  | 1 => ⟨S16x4096x256, .f32⟩
  | 2 => ⟨S_, .f32⟩
  | 3 => ⟨S256, .f32⟩
  | 4 => ⟨S256, .f32⟩
  | 5 => ⟨S256, .f32⟩
  | 6 => ⟨S1x1x256, .f32⟩
  | 7 => ⟨S16x4096x256, .f32⟩
  | 8 => ⟨S16x4096x256, .f32⟩
  | 9 => ⟨S1x1x256, .f32⟩
  | 10 => ⟨S16x4096x256, .f32⟩
  | 11 => ⟨S16x4096x256, .f32⟩
  | 12 => ⟨S1x1x256, .f32⟩
  | 13 => ⟨S16x4096x256, .f32⟩
  | 14 => ⟨S16x4096x256, .f32⟩
  | 15 => ⟨S_, .f32⟩
  | 16 => ⟨S16x4096x256, .f32⟩
  | 17 => ⟨S16x4096x256, .f32⟩
  | _ => ⟨S16x4096x256, .f32⟩

abbrev hbmTy (i : Nat) : BufTy := match i / 128 with
  | 0 => hbmTy0_0 i
  | 1 => hbmTy0_1 i
  | _ => ⟨S16x4096x256, .f32⟩

abbrev bufTy : (tb : Table) → Fin (tcTables nBuf tb) → BufTy
  | .hbm, ⟨i, _⟩ => hbmTy i
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_v0 : Ref sig .tc := ⟨.hbm, 26, rfl⟩
abbrev main_call0_v1_0 : Ref sig .tc := ⟨.hbm, 27, rfl⟩
abbrev main_v13 : Ref sig .tc := ⟨.hbm, 28, rfl⟩
abbrev main_v14 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v15 : Ref sig .tc := ⟨.hbm, 51, rfl⟩
abbrev main_c : Ref sig .tc := ⟨.hbm, 52, rfl⟩
abbrev main_v16 : Ref sig .tc := ⟨.hbm, 53, rfl⟩
abbrev main_v17 : Ref sig .tc := ⟨.hbm, 54, rfl⟩
abbrev main_c_2 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_3 : Ref sig .tc := ⟨.hbm, 71, rfl⟩
abbrev main_v33 : Ref sig .tc := ⟨.hbm, 72, rfl⟩
abbrev main_v34 : Ref sig .tc := ⟨.hbm, 73, rfl⟩
abbrev main_cst_4 : Ref sig .tc := ⟨.hbm, 74, rfl⟩
abbrev main_v35 : Ref sig .tc := ⟨.hbm, 75, rfl⟩
abbrev main_v36 : Ref sig .tc := ⟨.hbm, 76, rfl⟩
abbrev main_c_5 : Ref sig .tc := ⟨.hbm, 77, rfl⟩
abbrev main_v37 : Ref sig .tc := ⟨.hbm, 78, rfl⟩
abbrev main_v38 : Ref sig .tc := ⟨.hbm, 79, rfl⟩
abbrev main_c_6 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_7 : Ref sig .tc := ⟨.hbm, 89, rfl⟩
abbrev main_v47 : Ref sig .tc := ⟨.hbm, 90, rfl⟩
abbrev main_cst_8 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_9 : Ref sig .tc := ⟨.hbm, 99, rfl⟩
abbrev main_v55 : Ref sig .tc := ⟨.hbm, 100, rfl⟩
abbrev main_cst_10 : Ref sig .tc := ⟨.hbm, 101, rfl⟩
abbrev main_v56 : Ref sig .tc := ⟨.hbm, 102, rfl⟩
abbrev main_v57 : Ref sig .tc := ⟨.hbm, 103, rfl⟩
abbrev main_c_11 : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_cst_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_cst_1 : Ref sig .tc := ⟨.hbm, 115, rfl⟩
abbrev main_call2_v8 : Ref sig .tc := ⟨.hbm, 116, rfl⟩
abbrev main_call2_cst_2 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_cst_3 : Ref sig .tc := ⟨.hbm, 121, rfl⟩
abbrev main_call2_v12 : Ref sig .tc := ⟨.hbm, 122, rfl⟩
abbrev main_call2_cst_4 : Ref sig .tc := ⟨.hbm, 123, rfl⟩
abbrev main_call2_call0_v0 : Ref sig .tc := ⟨.hbm, 124, rfl⟩
abbrev main_call2_call0_v1 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_cst_12 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_call3_cst : Ref sig .tc := ⟨.hbm, 143, rfl⟩
abbrev main_call3_v0 : Ref sig .tc := ⟨.hbm, 144, rfl⟩
abbrev main_v74 : Ref sig .tc := ⟨.hbm, 145, rfl⟩

abbrev nD : Nat := 1
abbrev τ : Topo := Topo.v7x

variable {F : FTy → Type} [FloatOps F]
-- ==== Proof.Math.lean ====
module

public import Idealize.ShloMosaic.PureOps.Ideal

@[expose] public section

noncomputable section

namespace Cert.Knn

open Idealize.ShloMosaic

/-! ## Sums of reals read in the extended reals -/

/-- A finite sum of reals, read in the extended reals, is the sum of the terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Constants -/

/-- The small constant the batch normalisation adds to the variance, a real number. -/
def eps : ℝ := (Ideal.ofBits .f32 0x3727C5AC#32).toReal

/-- The word of the constant added to the variance. -/
theorem ofBits_eps : Ideal.ofBits .f32 0x3727C5AC#32 = (eps : EReal) := by
  unfold eps
  simp [Ideal.ofBits, Ideal.ieee, -EReal.coe_mul]

/-- The constant added to the variance is positive. -/
theorem eps_pos : 0 < eps := by
  unfold eps
  simp [Ideal.ofBits, Ideal.ieee, -EReal.coe_mul]

/-- The word of the number of points. -/
theorem ofBits_count : Ideal.ofBits .f32 0x47800000#32 = ((65536 : ℝ) : EReal) := by
  simp [Ideal.ofBits, Ideal.ieee, -EReal.coe_mul]; norm_num

/-- The word of the number of points' reciprocal. -/
theorem ofBits_inv_count : Ideal.ofBits .f32 0x37800000#32 = ((1 / 65536 : ℝ) : EReal) := by
  simp [Ideal.ofBits, Ideal.ieee, -EReal.coe_mul]; norm_num

/-- The word of four. -/
theorem ofBits_four : Ideal.ofBits .f32 0x40800000#32 = ((4 : ℝ) : EReal) := by
  simp [Ideal.ofBits, Ideal.ieee, -EReal.coe_mul]; norm_num

/-- The word of a quarter. -/
theorem ofBits_quarter : Ideal.ofBits .f32 0x3E800000#32 = ((1 / 4 : ℝ) : EReal) := by
  simp [Ideal.ofBits, Ideal.ieee, -EReal.coe_mul]; norm_num

/-- The word of minus two. -/
theorem ofBits_neg_two : Ideal.ofBits .f32 0xC0000000#32 = ((-2 : ℝ) : EReal) := by
  simp [Ideal.ofBits, Ideal.ieee, -EReal.coe_mul]; norm_num

/-- The word of plus infinity. -/
theorem ofBits_inf : Ideal.ofBits .f32 0x7F800000#32 = ⊤ := by
  simp [Ideal.ofBits, Ideal.ieee]

/-! ## The corners of the operations, at reals -/

/-- A quotient of reals, the divisor not zero. -/
theorem div_coe (a b : ℝ) (hb : b ≠ 0) : Ideal.div (a : EReal) (b : EReal) = ((a / b : ℝ) : EReal) := by
  have h : (b : EReal) ≠ 0 := by exact_mod_cast hb
  rw [Ideal.div, if_neg h, ← EReal.coe_inv, ← EReal.coe_mul, div_eq_mul_inv]

/-- The square root of a real that is not negative. -/
theorem sqrt_coe (a : ℝ) (ha : 0 ≤ a) : Ideal.sqrt (a : EReal) = ((Real.sqrt a : ℝ) : EReal) := by
  show (if a < 0 then (⊥ : EReal) else _) = _
  rw [if_neg (not_lt.mpr ha)]

/-- The reciprocal square root of a positive real. -/
theorem rsqrt_coe (a : ℝ) (ha : 0 < a) : Ideal.rsqrt (a : EReal) = (((Real.sqrt a)⁻¹ : ℝ) : EReal) := by
  show (if a < 0 then (⊥ : EReal) else if a = 0 then ⊤ else _) = _
  rw [if_neg (not_lt.mpr ha.le), if_neg ha.ne']

/-- The logistic function of any extended real is a real number. -/
theorem logistic_real (x : EReal) : ∃ r : ℝ, Ideal.logistic x = (r : EReal) := by
  induction x with
  | bot =>
    refine ⟨0, ?_⟩
    show Ideal.div 1 (1 + ⊤) = _
    have : (1 + ⊤ : EReal) = ⊤ := EReal.coe_add_top 1
    rw [this, Ideal.div, if_neg (by simp)]
    simp
  | top =>
    refine ⟨1, ?_⟩
    show Ideal.div 1 (1 + 0) = _
    rw [add_zero]
    exact_mod_cast (div_coe 1 1 one_ne_zero).trans (by norm_num)
  | coe r =>
    refine ⟨1 / (1 + Real.exp (-r)), ?_⟩
    show Ideal.div ((1 : ℝ) : EReal) (((1 : ℝ) : EReal) + ((Real.exp (-r) : ℝ) : EReal)) = _
    rw [← EReal.coe_add]
    exact div_coe _ _ (by positivity)

/-! ## Distances, gates and the linear layer, over the reals -/

/-- The squared distance of two points, grouped as `|x|² + |y|² − 2 x·y`. -/
def sqd (x y : Fin 3 → ℝ) : ℝ := -2 * (∑ c, x c * y c) + (∑ c, x c * x c) + ∑ c, y c * y c

/-- The part of the squared distance that depends on the second point. -/
def near (x y : Fin 3 → ℝ) : ℝ := -2 * (∑ c, x c * y c) + ∑ c, y c * y c

/-- The squared distance is its part in the second point and the first point's squared length. -/
theorem sqd_eq_near (x y : Fin 3 → ℝ) : sqd x y = near x y + ∑ c, x c * x c := by
  unfold sqd near; ring

/-- The relation layer's value before its bias: the squared distance and the offset, weighted. -/
def rel (w : Fin 4 → ℝ) (x y : Fin 3 → ℝ) : ℝ :=
  sqd x y * w 0 + (x 0 - y 0) * w 1 + (x 1 - y 1) * w 2 + (x 2 - y 2) * w 3

/-- The gate of a pair of points: the logistic function of the relation layer's value with its bias, a real number
    whatever the bias is. -/
def gate (w : Fin 4 → ℝ) (β : EReal) (x y : Fin 3 → ℝ) : ℝ := (Ideal.logistic ((rel w x y : EReal) + β)).toReal

/-- The gate, as the logistic function gives it. -/
theorem coe_gate (w : Fin 4 → ℝ) (β : EReal) (x y : Fin 3 → ℝ) :
    Ideal.logistic ((rel w x y : EReal) + β) = (gate w β x y : EReal) := by
  obtain ⟨r, hr⟩ := logistic_real ((rel w x y : EReal) + β)
  rw [gate, hr, EReal.toReal_coe]

/-- The relation layer's value computed from the three products, the squared norms and the two weighted sums apart,
    the bias joined to the second point's part, is the value with the bias added last, an infinite bias included. -/
theorem rel_split (w : Fin 4 → ℝ) (β : EReal) (x y : Fin 3 → ℝ) :
    ((-2 * w 0 : ℝ) : EReal) * ((∑ c, y c * x c : ℝ) : EReal)
        + ((w 0 * (∑ c, x c * x c) + (x 0 * w 1 + x 1 * w 2 + x 2 * w 3) : ℝ) : EReal)
        + (((w 0 * (∑ c, y c * y c) : ℝ) : EReal) + (β - ((y 0 * w 1 + y 1 * w 2 + y 2 * w 3 : ℝ) : EReal)))
      = (rel w x y : EReal) + β := by
  induction β with
  | bot => simp only [EReal.bot_sub, EReal.add_bot]
  | top => simp only [EReal.top_sub_coe, EReal.coe_add_top, ← EReal.coe_mul, ← EReal.coe_add]
  | coe b =>
    simp only [← EReal.coe_mul, ← EReal.coe_add, ← EReal.coe_sub]
    congr 1
    simp only [rel, sqd, Fin.sum_univ_three]
    ring

/-! ## The four nearest of the second set's points -/

/-- `σ` lists the points in order of a distance, and the first five distances strictly increase. -/
structure Ordered (d : Fin 21 → ℝ) (σ : Fin 21 → Fin 21) : Prop where
  inj : Function.Injective σ
  le : ∀ i j, i ≤ j → d (σ i) ≤ d (σ j)
  lt : ∀ i j : Fin 21, i.val < 4 → j.val = i.val + 1 → d (σ i) < d (σ j)

/-- The key of a row: a listed point's distance, and `+∞` on the padding rows. -/
def key (d : Fin 21 → ℝ) (j : Fin 24) : EReal := if h : j.val < 21 then (d ⟨j.val, h⟩ : EReal) else ⊤

/-- The row is one of the `k` nearest. -/
def Taken (σ : Fin 21 → Fin 21) (k : Nat) (j : Fin 24) : Prop := ∃ i : Fin 21, i.val < k ∧ (σ i).val = j.val

/-- Whether a row is taken can be decided. -/
instance (σ : Fin 21 → Fin 21) (k : Nat) (j : Fin 24) : Decidable (Taken σ k j) := by
  unfold Taken; infer_instance

/-- The keys left after the `k` nearest are taken out. -/
def left (d : Fin 21 → ℝ) (σ : Fin 21 → Fin 21) (k : Nat) (j : Fin 24) : EReal := if Taken σ k j then ⊤ else key d j

/-- The row of the `k`-th nearest point. -/
def row (σ : Fin 21 → Fin 21) (k : Fin 21) : Fin 24 := ⟨(σ k).val, by omega⟩

/-- The rows taken after a round are its nearest row and the rows taken before. -/
theorem taken_succ (σ : Fin 21 → Fin 21) (k : Fin 21) (j : Fin 24) :
    Taken σ (k.val + 1) j ↔ j = row σ k ∨ Taken σ k.val j := by
  constructor
  · rintro ⟨i, hi, hj⟩
    rcases Nat.lt_succ_iff_lt_or_eq.mp hi with h | h
    · exact .inr ⟨i, h, hj⟩
    · left
      have : i = k := Fin.ext h
      subst this
      exact Fin.ext hj.symm
  · rintro (h | ⟨i, hi, hj⟩)
    · exact ⟨k, Nat.lt_succ_self _, by rw [h]; rfl⟩
    · exact ⟨i, Nat.lt_succ_of_lt hi, hj⟩

/-- Taking the nearest remaining row out of the keys left leaves the keys of the next round. -/
theorem left_succ (d : Fin 21 → ℝ) (σ : Fin 21 → Fin 21) (k : Fin 21) (j : Fin 24) :
    (if j = row σ k then ⊤ else left d σ k.val j) = left d σ (k.val + 1) j := by
  unfold left
  by_cases h : j = row σ k
  · rw [if_pos h, if_pos ((taken_succ σ k j).mpr (.inl h))]
  · rw [if_neg h]
    by_cases h' : Taken σ k.val j
    · rw [if_pos h', if_pos ((taken_succ σ k j).mpr (.inr h'))]
    · rw [if_neg h', if_neg fun q => ((taken_succ σ k j).mp q).elim h h']

/-- In each of the first four rounds the nearest remaining row lies strictly below every other row. -/
theorem left_lt {d : Fin 21 → ℝ} {σ : Fin 21 → Fin 21} (H : Ordered d σ) (k : Fin 21) (hk : k.val < 4) (j : Fin 24)
    (hj : j ≠ row σ k) : left d σ k.val (row σ k) < left d σ k.val j := by
  have h0 : ¬ Taken σ k.val (row σ k) := by
    rintro ⟨i, hi, h⟩
    have : σ i = σ k := Fin.ext h
    rw [H.inj this] at hi
    exact lt_irrefl _ hi
  have hrow : left d σ k.val (row σ k) = (d (σ k) : EReal) := by
    unfold left key
    rw [if_neg h0]
    exact dif_pos (σ k).isLt
  rw [hrow]
  unfold left
  by_cases h1 : Taken σ k.val j
  · rw [if_pos h1]; exact EReal.coe_lt_top _
  rw [if_neg h1]
  unfold key
  by_cases h2 : j.val < 21
  · rw [dif_pos h2]
    obtain ⟨i, hi⟩ := Finite.injective_iff_surjective.mp H.inj ⟨j.val, h2⟩
    have hiv : (σ i).val = j.val := by rw [hi]
    have hik : ¬ i.val < k.val := fun h => h1 ⟨i, h, hiv⟩
    have hne : i.val ≠ k.val := fun h => hj (Fin.ext (by rw [← hiv, Fin.ext h]; rfl))
    rw [← hi]
    have hlt := H.lt k ⟨k.val + 1, by omega⟩ hk rfl
    have hle := H.le ⟨k.val + 1, by omega⟩ i (Fin.le_def.mpr (by show k.val + 1 ≤ i.val; omega))
    exact_mod_cast lt_of_lt_of_le hlt hle
  · rw [dif_neg h2]; exact EReal.coe_lt_top _

/-- A row's key equals the least of the keys left exactly when it is the nearest remaining row. -/
theorem left_eq_fold {d : Fin 21 → ℝ} {σ : Fin 21 → Fin 21} (H : Ordered d σ) (k : Fin 21) (hk : k.val < 4) (j : Fin 24) :
    left d σ k.val j = Finset.univ.fold min (⊤ : EReal) (fun j => left d σ k.val j) ↔ j = row σ k := by
  have hf : Finset.univ.fold min (⊤ : EReal) (fun j => left d σ k.val j) = left d σ k.val (row σ k) := by
    apply le_antisymm
    · exact (Finset.fold_min_le _).mpr (.inr ⟨row σ k, Finset.mem_univ _, le_rfl⟩)
    · refine (Finset.le_fold_min _).mpr ⟨le_top, fun j _ => ?_⟩
      by_cases hj : j = row σ k
      · rw [hj]
      · exact (left_lt H k hk j hj).le
  rw [hf]
  constructor
  · intro h
    by_contra hj
    exact absurd h (left_lt H k hk j hj).ne'
  · rintro rfl; rfl

/-- A sum over the rows weighted by an array that is zero off the four nearest is the sum over those four. -/
theorem sum_taken {σ : Fin 21 → Fin 21} (hσ : Function.Injective σ) (a q : Fin 24 → ℝ) :
    ∑ j : Fin 24, (if Taken σ 4 j then a j else 0) * q j
      = ∑ k : Fin 4, a (row σ (k.castLE (by norm_num))) * q (row σ (k.castLE (by norm_num))) := by
  have hinj : Function.Injective fun k : Fin 4 => row σ (k.castLE (by norm_num)) := by
    intro k k' h
    have h1 : (row σ (k.castLE (by norm_num))).val = (row σ (k'.castLE (by norm_num))).val := congrArg Fin.val h
    have h2 := hσ (Fin.ext h1)
    exact Fin.ext (by simpa using congrArg Fin.val h2)
  rw [← Finset.sum_image (f := fun j => a j * q j) (g := fun k : Fin 4 => row σ (k.castLE (by norm_num)))
    fun k _ k' _ h => hinj h]
  rw [← Finset.sum_subset (Finset.subset_univ (Finset.univ.image fun k : Fin 4 => row σ (k.castLE (by norm_num))))]
  · refine Finset.sum_congr rfl fun j hj => ?_
    obtain ⟨k, _, rfl⟩ := Finset.mem_image.mp hj
    rw [if_pos ⟨k.castLE (by norm_num), k.isLt, rfl⟩]
  · intro j _ hj
    rw [if_neg, zero_mul]
    rintro ⟨i, hi, h⟩
    exact hj (Finset.mem_image.mpr ⟨⟨i.val, hi⟩, Finset.mem_univ _, Fin.ext h⟩)

/-- The linear layer's value at a point: its own features' part, the mean of the four nearest joints' gated features'
    part, and the bias. -/
def lin (P W₁ W₂ : Fin 256 → ℝ) (b : ℝ) (g : Fin 4 → ℝ) (JF : Fin 4 → Fin 256 → ℝ) : ℝ :=
  (∑ c, P c * W₁ c) + (∑ k, g k * (1 / 4) * ∑ c, JF k c * W₂ c) + b

/-- The layer's second part, the features averaged first and the weights applied after, is the part with the weights
    applied first. -/
theorem lin_mean (W₂ : Fin 256 → ℝ) (g : Fin 4 → ℝ) (JF : Fin 4 → Fin 256 → ℝ) :
    ∑ c, ((∑ k, JF k c * g k) / 4) * W₂ c = ∑ k, g k * (1 / 4) * ∑ c, JF k c * W₂ c := by
  simp only [Finset.mul_sum, Finset.sum_div, Finset.sum_mul]
  rw [Finset.sum_comm]
  refine Finset.sum_congr rfl fun k _ => Finset.sum_congr rfl fun c _ => ?_
  ring

/-! ## Batch normalisation -/

/-- The mean over every point of every cloud. -/
def mean (X : Fin 16 → Fin 4096 → ℝ) : ℝ := (∑ b, ∑ n, X b n) / 65536

/-- The variance over every point of every cloud. -/
def var (X : Fin 16 → Fin 4096 → ℝ) : ℝ := (∑ b, ∑ n, (X b n - mean X) * (X b n - mean X)) / 65536

/-- The variance is not negative. -/
theorem var_nonneg (X : Fin 16 → Fin 4096 → ℝ) : 0 ≤ var X :=
  div_nonneg (Finset.sum_nonneg fun _ _ => Finset.sum_nonneg fun _ _ => mul_self_nonneg _) (by norm_num)

/-- The mean of the squares less the square of the mean is the variance. -/
theorem var_eq (X : Fin 16 → Fin 4096 → ℝ) : (∑ b, ∑ n, X b n * X b n) * (1 / 65536) - mean X * mean X = var X := by
  have h : ∑ b, ∑ n, (X b n - mean X) * (X b n - mean X)
      = (∑ b, ∑ n, X b n * X b n) - 2 * mean X * (∑ b, ∑ n, X b n) + 65536 * (mean X * mean X) := by
    have h1 : ∀ b n, (X b n - mean X) * (X b n - mean X) = X b n * X b n - 2 * mean X * X b n + mean X * mean X :=
      fun b n => by ring
    simp only [h1, Finset.sum_add_distrib, Finset.sum_sub_distrib, ← Finset.mul_sum, Finset.sum_const,
      Finset.card_univ, Fintype.card_fin, nsmul_eq_mul]
    push_cast
    ring
  have hs : ∑ b, ∑ n, X b n = 65536 * mean X := by unfold mean; ring
  rw [var, h, hs]
  ring

/-- The normalised value of a point's feature, scaled, shifted and cut off at zero. -/
def normed (X : Fin 16 → Fin 4096 → ℝ) (γ : ℝ) (β : EReal) (b : Fin 16) (n : Fin 4096) : EReal :=
  max ((((X b n - mean X) / Real.sqrt (var X + eps) * γ : ℝ) : EReal) + β) 0

/-- The normalisation as one scale and one shift gives the normalised value, an infinite shift included. -/
theorem normed_affine (X : Fin 16 → Fin 4096 → ℝ) (γ : ℝ) (β : EReal) (b : Fin 16) (n : Fin 4096) :
    max (((X b n : ℝ) : EReal) * ((γ * (Real.sqrt (var X + eps))⁻¹ : ℝ) : EReal)
        + (β - ((mean X * (γ * (Real.sqrt (var X + eps))⁻¹) : ℝ) : EReal))) 0 = normed X γ β b n := by
  unfold normed
  congr 1
  induction β with
  | bot => simp only [EReal.bot_sub, EReal.add_bot]
  | top => simp only [EReal.top_sub_coe, ← EReal.coe_mul, EReal.coe_add_top]
  | coe b' =>
    simp only [← EReal.coe_mul, ← EReal.coe_add, ← EReal.coe_sub]
    congr 1
    rw [div_eq_mul_inv]
    ring

end Cert.Knn

end
-- ==== Proof.Kern.lean ====
module

public import Idealize.ShloMosaic.Lib.Pointwise
public import proofs.«01_k».proof.Proof.Gen.KernelIdeal.Skeleton
public import proofs.«01_k».proof.Proof.Math

@[expose] public section

set_option maxRecDepth 16384

noncomputable section

namespace Cert.KernelIdeal.Val

open Idealize.ShloMosaic Cert.KernelIdeal Cert.KernelIdeal.Gen Cert.Knn

/-- A row number below 24, as a word, is signed-below 21 exactly when it is below 21. -/
theorem row_slt (j : Fin 24) : IntOp.cmpi CmpIPredicate.slt (BitVec.ofNat 32 j.val) 21#32 = BitVec.ofBool (decide (j.val < 21)) := by
  revert j; decide

/-- The second set's point behind a row that is not padding. -/
def pt (y : Fin 24 → Fin 3 → ℝ) (i : Fin 21) : Fin 3 → ℝ := y ⟨i.val, by omega⟩

section
variable {x : Fin 4096 → Fin 3 → ℝ} {y : Fin 24 → Fin 3 → ℝ} {w : Fin 4 → ℝ} {β : EReal}
variable {v3 : Vec Ideal S1x24x3 .f32} {v5 : Vec Ideal S1x3x4096 .f32} {v7 v8 v22 v35 v48 : Elt Ideal .f32}

/-- The weights the kernel gives the second set's points: a quarter of the gate. -/
theorem pay20_apply (h3 : ∀ j c, v3 (ix3 0 j c) = (y j c : EReal)) (h5 : ∀ c n, v5 (ix3 0 c n) = (x n c : EReal))
    (h7 : v7 = (w 0 : EReal)) (h8 : v8 = β) (h22 : v22 = (w 1 : EReal)) (h35 : v35 = (w 2 : EReal)) (h48 : v48 = (w 3 : EReal))
    (j : Fin 24) (n : Fin 4096) :
    k0_pay20 (k0_pay6 v3) (k0_pay7 v5) v7 v8 (k0_pay8 v3 v5) (k0_pay11 v3 v22) (k0_pay14 v5) (k0_pay15 v3)
      (k0_pay16 v5 v22 v35) (k0_pay17 v3 v35) v48 (ix2 j n) = ((gate w β (x n) (y j) * (1 / 4) : ℝ) : EReal) := by
  pointwise [k0_pay20, k0_pay6, k0_pay7, k0_pay8, k0_pay11, k0_pay14, k0_pay15, k0_pay16, k0_pay17, k0_pay18, k0_pay19,
    k0_pay9, k0_pay10, k0_pay12, k0_pay13]
  rw [EReal.coe_mul, ← coe_gate, ← rel_split, ofBits_neg_two, ofBits_quarter]
  simp only [h3, h5, h7, h8, h22, h35, h48, Fin.sum_univ_three, ← EReal.coe_mul, ← EReal.coe_add]

/-- The keys the rounds start from. -/
theorem pay21_apply (h3 : ∀ j c, v3 (ix3 0 j c) = (y j c : EReal)) (h5 : ∀ c n, v5 (ix3 0 c n) = (x n c : EReal))
    (j : Fin 24) (n : Fin 4096) :
    k0_pay21 (k0_pay6 v3) (k0_pay8 v3 v5) (k0_pay15 v3) (ix2 j n) = key (fun i => near (x n) (pt y i)) j := by
  pointwise [k0_pay21, k0_pay6, k0_pay7, k0_pay8, k0_pay15, k0_pay18, k0_pay19, k0_pay10, k0_pay13]
  rw [row_slt, ofBits_neg_two, ofBits_inf]
  unfold key
  by_cases h : j.val < 21
  · rw [dif_pos h, decide_eq_true h]
    refine Eq.trans (if_pos rfl) ?_
    simp only [h3, h5, Fin.sum_univ_three, ← EReal.coe_mul, ← EReal.coe_add, near, pt, Fin.eta]
    congr 1
    ring
  · rw [dif_neg h, decide_eq_false h]
    exact if_neg (by decide)

end

section
variable {d : Fin 21 → ℝ} {σ : Fin 21 → Fin 21}

/-- The test for the least remaining key, as an equation of propositions: it holds of the nearest remaining row alone. -/
theorem left_eq_fold' (H : Ordered d σ) (k : Fin 21) (hk : k.val < 4) (j : Fin 24) :
    (left d σ k.val j = Finset.univ.fold min (⊤ : EReal) (fun j => left d σ k.val j)) = (j = row σ k) :=
  propext (left_eq_fold H k hk j)

/-- A value given on the nearest remaining row and on the rows taken before is given on the rows taken after. -/
theorem taken_step {α : Type} (σ : Fin 21 → Fin 21) (k : Fin 21) (j : Fin 24) (A B : α) :
    (if j = row σ k then A else if Taken σ k.val j then A else B) = if Taken σ (k.val + 1) j then A else B := by
  by_cases h : j = row σ k
  · rw [if_pos h, if_pos ((taken_succ σ k j).mpr (.inl h))]
  · rw [if_neg h]
    by_cases h' : Taken σ k.val j
    · rw [if_pos h', if_pos ((taken_succ σ k j).mpr (.inr h'))]
    · rw [if_neg h', if_neg fun q => ((taken_succ σ k j).mp q).elim h h']

/-- No row is taken before the first round. -/
theorem taken_zero (σ : Fin 21 → Fin 21) (j : Fin 24) : ¬ Taken σ 0 j := by
  rintro ⟨i, hi, _⟩; exact absurd hi (Nat.not_lt_zero _)

end

section
variable {d : Fin 21 → ℝ} {σ : Fin 21 → Fin 21}
variable {v4 : FVec Ideal S24x3 .f32} {v11 : FVec Ideal S24x4096 .f32} {v34 : FVec Ideal S24x1 .f32}

/-- Before the first round every key remains. -/
theorem key_eq_left (d : Fin 21 → ℝ) (σ : Fin 21 → Fin 21) (j : Fin 24) : key d j = left d σ (0 : Fin 21).val j := by
  unfold left; exact (if_neg (taken_zero σ j)).symm

/-- The first round finds the nearest row. -/
theorem pay22_apply (H : Ordered d σ) {n : Fin 4096} (h21 : ∀ j, k0_pay21 v4 v11 v34 (ix2 j n) = key d j) (j : Fin 24) :
    k0_pay22 v4 v11 v34 (ix2 j n) = BitVec.ofBool (decide (j = row σ 0)) := by
  pointwise [k0_pay22]
  simp only [h21, key_eq_left d σ, ofBits_inf, left_eq_fold' H 0 (by decide)]

/-- The weights taken over in the first round. -/
theorem pay23_apply (H : Ordered d σ) {n : Fin 4096} (h21 : ∀ j, k0_pay21 v4 v11 v34 (ix2 j n) = key d j)
    {v6 : FVec Ideal S3x4096 .f32} {v7 v8 v48 : Elt Ideal .f32} {v28 v40 : FVec Ideal S24x1 .f32} {v32 v38 : FVec Ideal S1x4096 .f32} {a : Fin 24 → ℝ}
    (h73 : ∀ j, k0_pay20 v4 v6 v7 v8 v11 v28 v32 v34 v38 v40 v48 (ix2 j n) = (a j : EReal)) (j : Fin 24) :
    k0_pay23 v4 v6 v7 v8 v11 v28 v32 v34 v38 v40 v48 (ix2 j n) = (if Taken σ 1 j then (a j : EReal) else 0 : EReal) := by
  have T := taken_step σ 0 j (a j : EReal) 0
  pointwise [k0_pay23]
  rw [pay22_apply H h21, h73]
  refine Eq.trans ?_ T
  by_cases h : j = row σ 0
  · rw [if_pos h, decide_eq_true h]; exact if_pos rfl
  · rw [if_neg h, decide_eq_false h]; exact (if_neg (by decide)).trans (Eq.trans (by pointwise [Scalar.ofBits]) (if_neg (taken_zero σ j)).symm)

/-- The keys left by the first round. -/
theorem pay24_apply (H : Ordered d σ) {n : Fin 4096} (h21 : ∀ j, k0_pay21 v4 v11 v34 (ix2 j n) = key d j) (j : Fin 24) :
    k0_pay24 v4 v11 v34 (ix2 j n) = left d σ 1 j := by
  pointwise [k0_pay24]
  rw [pay22_apply H h21, h21, ofBits_inf, key_eq_left d σ j]
  refine Eq.trans ?_ (left_succ d σ 0 j)
  by_cases h : j = row σ 0
  · rw [if_pos h, decide_eq_true h]; exact if_pos rfl
  · rw [if_neg h, decide_eq_false h]; exact if_neg (by decide)

end

section
variable {d : Fin 21 → ℝ} {σ : Fin 21 → Fin 21}

/-- The linear stage on a tile, as a real number. -/
theorem pay25_apply (H : Ordered d σ) {v73 v88 v90 : FVec Ideal S24x4096 .f32} {v110 : Vec Ideal S1x24x256 .f32}
    {v112 v118 : Vec Ideal S256x256 .f32} {v115 : Vec Ideal S1x4096x256 .f32} {v124 : Vec Ideal S1x256 .f32} {n : Fin 4096} {o : Fin 256}
    {a : Fin 24 → ℝ} {P W₁ W₂ : Fin 256 → ℝ} {JF : Fin 24 → Fin 256 → ℝ} {b : ℝ}
    (h73 : ∀ j, v73 (ix2 j n) = (a j : EReal)) (h88 : ∀ j, v88 (ix2 j n) = (if Taken σ 1 j then (a j : EReal) else 0 : EReal))
    (h90 : ∀ j, v90 (ix2 j n) = left d σ 1 j) (h110 : ∀ j c, v110 (ix3 0 j c) = (JF j c : EReal))
    (h112 : ∀ c, v112 (ix2 o c) = (W₂ c : EReal)) (h115 : ∀ c, v115 (ix3 0 n c) = (P c : EReal))
    (h118 : ∀ c, v118 (ix2 o c) = (W₁ c : EReal)) (h124 : v124 (ix2 0 o) = (b : EReal)) :
    k0_pay25 v73 v88 v90 v110 v112 v115 v118 v124 (ix2 n o)
      = ((∑ c, P c * W₁ c + ∑ k : Fin 4, a (row σ (k.castLE (by decide))) * ∑ c, JF (row σ (k.castLE (by decide))) c * W₂ c + b : ℝ) : EReal) := by
  have L1 := left_eq_fold' H 1 (by decide)
  have L2 := left_eq_fold' H 2 (by decide)
  have L3 := left_eq_fold' H 3 (by decide)
  have S1 := left_succ d σ 1
  have S2 := left_succ d σ 2
  have T1 := fun j => taken_step σ 1 j (a j : EReal) 0
  have T2 := fun j => taken_step σ 2 j (a j : EReal) 0
  have T3 := fun j => taken_step σ 3 j (a j : EReal) 0
  pointwise [k0_pay25]
  simp only [show ((1 : Fin 21).val) = 1 from rfl, show ((2 : Fin 21).val) = 2 from rfl, show ((3 : Fin 21).val) = 3 from rfl,
    show 1 + 1 = 2 from rfl, show 2 + 1 = 3 from rfl, show 3 + 1 = 4 from rfl] at L1 L2 L3 S1 S2 T1 T2 T3
  simp only [ofBits_inf, h90, L1, S1, L2, S2, L3, h73, h88, T1, T2, T3, h110, h112, h115, h118, h124, ← EReal.coe_mul, ← coe_sum]
  have e : ∀ j : Fin 24, (if Taken σ 4 j then (a j : EReal) else 0 : EReal) = ((if Taken σ 4 j then a j else 0 : ℝ) : EReal) := fun j => by
    split <;> rfl
  simp only [e, ← EReal.coe_mul, ← coe_sum, ← EReal.coe_add]
  rw [sum_taken H.inj a fun j => ∑ c, JF j c * W₂ c]

end

/-- The column sums of a tile. -/
theorem pay4_apply {v128 : FVec Ideal S4096x256 .f32} {v138 : Vec Ideal S1x256 .f32} (o : Fin 256) :
    k0_pay4 v128 v138 (ix2 0 o) = v138 (ix2 0 o) + ∑ n : Fin 4096, v128 (ix2 n o) := by
  pointwise! [k0_pay4, k0_pay2]

/-- The column sums of a tile's squares. -/
theorem pay5_apply {v128 : FVec Ideal S4096x256 .f32} {v142 : Vec Ideal S1x256 .f32} (o : Fin 256) :
    k0_pay5 v128 v142 (ix2 0 o) = v142 (ix2 0 o) + ∑ n : Fin 4096, v128 (ix2 n o) * v128 (ix2 n o) := by
  pointwise! [k0_pay5, k0_pay2]

/-- The normalized tile, from the column sums and the columns' sums of squares. -/
theorem pay1_apply {v0 v4 v13 v16 : Vec Ideal S1x256 .f32} {v20 : Vec Ideal S1x4096x256 .f32} {o : Fin 256} {X : Fin 16 → Fin 4096 → ℝ}
    {γ : ℝ} {β : EReal} {b : Fin 16} {n : Fin 4096}
    (h0 : v0 (ix2 0 o) = ((∑ b, ∑ n, X b n : ℝ) : EReal)) (h4 : v4 (ix2 0 o) = ((∑ b, ∑ n, X b n * X b n : ℝ) : EReal))
    (h13 : v13 (ix2 0 o) = (γ : EReal)) (h16 : v16 (ix2 0 o) = β) (h20 : v20 (ix3 0 n o) = (X b n : EReal)) :
    k1_pay1 v0 v4 v13 v16 v20 (ix3 0 n o) = normed X γ β b n := by
  pointwise [k1_pay1]
  simp only [h0, h4, h13, h16, h20, ofBits_inv_count, ofBits_eps, ← EReal.coe_mul, ← EReal.coe_sub, ← EReal.coe_add]
  have hm : (∑ b, ∑ n, X b n) * (1 / 65536) = mean X := by unfold mean; ring
  rw [hm, var_eq, rsqrt_coe _ (add_pos_of_nonneg_of_pos (var_nonneg X) eps_pos)]
  simp only [← EReal.coe_mul]
  exact normed_affine X γ β b n

end Cert.KernelIdeal.Val
-- ==== Proof.Tile.lean ====
module

public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.Gen.KernelIdeal.Frame
public import proofs.«01_k».proof.Proof.Kern

@[expose] public section

set_option maxRecDepth 16384

noncomputable section

namespace Cert.KernelIdeal.Val

open Idealize.ShloMosaic Idealize.ShloMosaic.TcCoe Cert.KernelIdeal Cert.KernelIdeal.Gen Cert.Knn

variable (V : (c : Dev nD) → (b : Ref sig .tc) → Buf (Elt Ideal) ((c : Thread nD τ).loc b)) (c : Dev nD)

/-- The linear stage's tile, from the blocks the first kernel is given. -/
def tile (x0 : Vec Ideal S1x3x4096 .f32) (x1 : Vec Ideal S1x24x3 .f32) (x2 : Vec Ideal S1x4096x256 .f32) (x3 : Vec Ideal S1x24x256 .bf16)
    (x4 : Vec Ideal S4 .f32) (x5 : Vec Ideal S1 .f32) (x6 : Vec Ideal S1x256 .f32) (x7 : Vec Ideal S256x512 .bf16) : FVec Ideal S4096x256 .bf16 :=
  let w (o : ℕ) (h : ∀ a, (![o] : Fin 1 → Nat) a + S1.size a ≤ S4.size a) : Elt Ideal .f32 := View.ld x4 (Rect.unit ![o] S1.size h) (Shape.Idx.first (s := S1) (by decide))
  let b : Elt Ideal .f32 := View.ld x5 (Rect.unit ![0] S1.size inb_S1_S1_0) (Shape.Idx.first (s := S1) (by decide))
  let w0 := w 0 inb_S4_S1_0
  let w1 := w 1 inb_S4_S1_1
  let w2 := w 2 inb_S4_S1_2
  let w3 := w 3 inb_S4_S1_3
  k0_pay25
    (k0_pay20 (k0_pay6 x1) (k0_pay7 x0) w0 b (k0_pay8 x1 x0) (k0_pay11 x1 w1) (k0_pay14 x0) (k0_pay15 x1) (k0_pay16 x0 w1 w2) (k0_pay17 x1 w2) w3)
    (k0_pay23 (k0_pay6 x1) (k0_pay7 x0) w0 b (k0_pay8 x1 x0) (k0_pay11 x1 w1) (k0_pay14 x0) (k0_pay15 x1) (k0_pay16 x0 w1 w2) (k0_pay17 x1 w2) w3)
    (k0_pay24 (k0_pay6 x1) (k0_pay8 x1 x0) (k0_pay15 x1))
    x3 (View.ld x7 (Rect.unit ![0, 256] S256x256.size inb_S256x512_S256x256_0_256)) x2
    (View.ld x7 (Rect.unit ![0, 0] S256x256.size inb_S256x512_S256x256_0_0)) x6

/-- The tile of a grid point of the first region. -/
def tileAt (t : Fin cfg0.N) : FVec Ideal S4096x256 .bf16 :=
  tile (iblk0 V c 0 t) (iblk0 V c 1 t) (iblk0 V c 2 t) (iblk0 V c 3 t) (iblk0 V c 4 t) (iblk0 V c 5 t) (iblk0 V c 6 t) (iblk0 V c 7 t)

/-- What a grid point leaves in the first output's block. -/
theorem outsAt0_fst (t : Fin cfg0.N) : (outsAt0 V c t.val t.isLt).1 = k0_pay1 (tileAt V c t) := by
  by_cases h : t.val % 16 = 0
  · rw [outsAt0_A V c t h]; frame_out; exact rfl
  · rw [outsAt0_B V c t h]; frame_out; exact rfl

/-- The two rows of sums after a grid point's additions, over what stood there before. -/
theorem stats_A (t : Fin cfg0.N) (h : t.val % 16 = 0) :
    (outsAt0 V c t.val t.isLt).2 = View.canon
      [⟨Rect.unit (s := S8x256) ![1, 0] S1x256.size inb_S8x256_S1x256_1_0, k0_pay5 (tileAt V c t) (View.ld (k0_pay3 (F := Ideal)) (Rect.unit (s := S8x256) ![1, 0] S1x256.size inb_S8x256_S1x256_1_0))⟩,
       ⟨Rect.unit (s := S8x256) ![0, 0] S1x256.size inb_S8x256_S1x256_0_0, k0_pay4 (tileAt V c t) (View.ld (k0_pay3 (F := Ideal)) (Rect.unit (s := S8x256) ![0, 0] S1x256.size inb_S8x256_S1x256_0_0))⟩,
       ⟨Rect.unit (s := S8x256) ![0, 0] S8x256.size inb_S8x256_S8x256_0_0, k0_pay3 (F := Ideal)⟩] := by
  rw [outsAt0_A V c t h]; frame_open
  simp (disch := decide) only [↓ View.readCov_skip, ↓ View.readCov_cons_toLoadRect, ↓ View.readCov_fill]
  frame_out
  exact rfl

/-- The same at the other points. -/
theorem stats_B (t : Fin cfg0.N) (h : ¬ t.val % 16 = 0) :
    (outsAt0 V c t.val t.isLt).2 = (ms0_9 t).view.read (Elt Ideal) ((ms0_9 t).view.writes (Elt Ideal) ((hs0_9 t).unread (outsAt0 V c (t.val - 1) (by omega)).2)
      [⟨Rect.unit (s := S8x256) ![1, 0] S1x256.size inb_S8x256_S1x256_1_0, k0_pay5 (tileAt V c t) (View.ld (outsAt0 V c (t.val - 1) (by omega)).2 (Rect.unit (s := S8x256) ![1, 0] S1x256.size inb_S8x256_S1x256_1_0))⟩,
       ⟨Rect.unit (s := S8x256) ![0, 0] S1x256.size inb_S8x256_S1x256_0_0, k0_pay4 (tileAt V c t) (View.ld (outsAt0 V c (t.val - 1) (by omega)).2 (Rect.unit (s := S8x256) ![0, 0] S1x256.size inb_S8x256_S1x256_0_0))⟩]) := by
  rw [outsAt0_B V c t h]; frame_out
  exact rfl

/-- The first row of the sums' block is the store to it, the later store to the second row apart. -/
theorem row0_read {κ : Kind} {sp : Space} (v : View sig κ sp S8x256 .f32) (f : v.ty.Contents (Elt Ideal)) (p1 p0 : Vec Ideal S1x256 .f32)
    (L : List (View.Piece (Elt Ideal) S8x256 .f32)) (o : Fin 256) :
    v.read (Elt Ideal) (v.writes (Elt Ideal) f (⟨Rect.unit (s := S8x256) ![1, 0] S1x256.size inb_S8x256_S1x256_1_0, p1⟩
      :: ⟨Rect.unit (s := S8x256) ![0, 0] S1x256.size inb_S8x256_S1x256_0_0, p0⟩ :: L)) (ix2 0 o) = p0 (ix2 0 o) := by
  rw [View.read_writes_cons_unit_of_not_mem v f _ _ _ _ rfl 0 (.inl (by decide : 0 < 1))]
  exact View.read_writes_cons_unit_of_mem v f _ _ _ (ix2 0 o) (ix2 0 o) rfl (by intro a; fin_cases a <;> simp)

/-- The second row of the sums' block is the last store. -/
theorem row1_read {κ : Kind} {sp : Space} (v : View sig κ sp S8x256 .f32) (f : v.ty.Contents (Elt Ideal)) (p1 : Vec Ideal S1x256 .f32)
    (L : List (View.Piece (Elt Ideal) S8x256 .f32)) (o : Fin 256) :
    v.read (Elt Ideal) (v.writes (Elt Ideal) f (⟨Rect.unit (s := S8x256) ![1, 0] S1x256.size inb_S8x256_S1x256_1_0, p1⟩ :: L)) (ix2 1 o) = p1 (ix2 0 o) :=
  View.read_writes_cons_unit_of_mem v f _ _ _ (ix2 1 o) (ix2 0 o) rfl (by intro a; fin_cases a <;> simp)

/-- A row loaded from the sums' block. -/
theorem ld_row (X : Vec Ideal S8x256 .f32) (r : Fin 8) (h : ∀ a, (![r.val, 0] : Fin 2 → Nat) a + S1x256.size a ≤ S8x256.size a) (o : Fin 256) :
    View.ld X (Rect.unit (s := S8x256) ![r.val, 0] S1x256.size h) (ix2 0 o) = X (ix2 r o) :=
  View.ld_unit_apply_of _ _ _ _ _ (ix2 r o) (by intro a; fin_cases a <;> simp)

/-- The sums' block is cleared to zero. -/
theorem pay3_apply (y : S8x256.Idx) : k0_pay3 (F := Ideal) y = 0 := by
  pointwise [k0_pay3]

/-- The sums a grid point adds in the first row. -/
theorem row0_reset (t : Fin cfg0.N) (h : t.val % 16 = 0) (o : Fin 256) :
    (outsAt0 V c t.val t.isLt).2 (ix2 0 o) = ∑ n : Fin 4096, tileAt V c t (ix2 n o) := by
  rw [stats_A V c t h, ← View.read_writes_junk_eq_canon VO0_9, row0_read, pay4_apply]
  erw [ld_row _ 0]
  rw [pay3_apply, zero_add]

/-- The later points add to the first row. -/
theorem row0_step (t : Fin cfg0.N) (h : ¬ t.val % 16 = 0) (o : Fin 256) :
    (outsAt0 V c t.val t.isLt).2 (ix2 0 o) = (outsAt0 V c (t.val - 1) (by omega)).2 (ix2 0 o) + ∑ n : Fin 4096, tileAt V c t (ix2 n o) := by
  rw [stats_B V c t h, row0_read, pay4_apply]
  erw [ld_row _ 0]

/-- The sums of squares the first grid point leaves in the second row. -/
theorem row1_reset (t : Fin cfg0.N) (h : t.val % 16 = 0) (o : Fin 256) :
    (outsAt0 V c t.val t.isLt).2 (ix2 1 o) = ∑ n : Fin 4096, tileAt V c t (ix2 n o) * tileAt V c t (ix2 n o) := by
  rw [stats_A V c t h, ← View.read_writes_junk_eq_canon VO0_9, row1_read, pay5_apply]
  erw [ld_row _ 1]
  rw [pay3_apply, zero_add]

/-- The later points add to the second row. -/
theorem row1_step (t : Fin cfg0.N) (h : ¬ t.val % 16 = 0) (o : Fin 256) :
    (outsAt0 V c t.val t.isLt).2 (ix2 1 o) = (outsAt0 V c (t.val - 1) (by omega)).2 (ix2 1 o) + ∑ n : Fin 4096, tileAt V c t (ix2 n o) * tileAt V c t (ix2 n o) := by
  rw [stats_B V c t h, row1_read, pay5_apply]
  erw [ld_row _ 1]

end Cert.KernelIdeal.Val
-- ==== Proof.Regions.lean ====
module

public import proofs.«01_k».proof.Proof.Tile

@[expose] public section

set_option maxRecDepth 16384

noncomputable section

namespace Cert.KernelIdeal.Val

open Idealize.ShloMosaic Idealize.ShloMosaic.TcCoe Cert.KernelIdeal Cert.KernelIdeal.Gen Cert.Knn

variable (V : (c : Dev nD) → (b : Ref sig .tc) → Buf (Elt Ideal) ((c : Thread nD τ).loc b)) (c : Dev nD)

/-- The cloud a grid point works on. -/
def cloud (t : Fin cfg0.N) : Fin 16 := ⟨t.val, t.isLt⟩

/-- The first region's index maps. -/
theorem index0 : ∀ t : Fin grid0.N, win0_0.index t = ![t.val, 0, 0] ∧ win0_1.index t = ![t.val, 0, 0] ∧ win0_2.index t = ![t.val, 0, 0]
    ∧ win0_3.index t = ![t.val, 0, 0] ∧ win0_4.index t = ![0] ∧ win0_5.index t = ![0] ∧ win0_6.index t = ![0, 0] ∧ win0_7.index t = ![0, 0]
    ∧ win0_8.index t = ![t.val, 0, 0] ∧ win0_9.index t = ![0, 0] := by decide +kernel

/-- Where each input block of the first region reads its array. -/
theorem blk0_0 (t : Fin cfg0.N) (k : Fin 3) (n : Fin 4096) : iblk0 V c 0 t (ix3 0 k n) = V c main_call0_v0 (ix3 (cloud t) k n) := by
  blk_ext [iblk0, index0 t, cloud]
/-- The second set's block. -/
theorem blk0_1 (t : Fin cfg0.N) (j : Fin 24) (k : Fin 3) : iblk0 V c 1 t (ix3 0 j k) = V c main_call0_v1 (ix3 (cloud t) j k) := by
  blk_ext [iblk0, index0 t, cloud]
/-- The first set's features. -/
theorem blk0_2 (t : Fin cfg0.N) (n : Fin 4096) (k : Fin 256) : iblk0 V c 2 t (ix3 0 n k) = V c main_arg0 (ix3 (cloud t) n k) := by
  blk_ext [iblk0, index0 t, cloud]
/-- The second set's features. -/
theorem blk0_3 (t : Fin cfg0.N) (j : Fin 24) (k : Fin 256) : iblk0 V c 3 t (ix3 0 j k) = V c main_call0_v3 (ix3 (cloud t) j k) := by
  blk_ext [iblk0, index0 t, cloud]
/-- The gate's weights. -/
theorem blk0_4 (t : Fin cfg0.N) (k : Fin 4) : iblk0 V c 4 t (ix1 k) = V c main_arg4 (ix1 k) := by
  blk_ext [iblk0, index0 t, cloud]
/-- The gate's additive term. -/
theorem blk0_5 (t : Fin cfg0.N) : iblk0 V c 5 t (ix1 0) = V c main_call0_v5 (ix1 0) := by
  blk_ext [iblk0, index0 t, cloud]
/-- The linear stage's additive terms. -/
theorem blk0_6 (t : Fin cfg0.N) (o : Fin 256) : iblk0 V c 6 t (ix2 0 o) = V c main_call0_v6 (ix2 0 o) := by
  blk_ext [iblk0, index0 t, cloud]
/-- The linear stage's weights. -/
theorem blk0_7 (t : Fin cfg0.N) (o : Fin 256) (k : Fin 512) : iblk0 V c 7 t (ix2 o k) = V c main_call0_v4 (ix2 o k) := by
  blk_ext [iblk0, index0 t, cloud]

/-- The real data behind the first region's arrays, with an order of each point's distances. -/
structure Data where
  X : Fin 16 → Fin 4096 → Fin 3 → ℝ
  Y : Fin 16 → Fin 24 → Fin 3 → ℝ
  P : Fin 16 → Fin 4096 → Fin 256 → ℝ
  JF : Fin 16 → Fin 24 → Fin 256 → ℝ
  w : Fin 4 → ℝ
  β : EReal
  bm : Fin 256 → ℝ
  W : Fin 256 → Fin 512 → ℝ
  σ : Fin 16 → Fin 4096 → Fin 21 → Fin 21

/-- The linear stage at a point and an output column. -/
def Data.lin (D : Data) (o : Fin 256) (b : Fin 16) (n : Fin 4096) : ℝ :=
  Knn.lin (D.P b n) (fun c => D.W o ⟨c.val, by omega⟩) (fun c => D.W o ⟨256 + c.val, by omega⟩) (D.bm o)
    (fun k => gate D.w D.β (D.X b n) (D.Y b (row (D.σ b n) (k.castLE (by decide)))))
    (fun k => D.JF b (row (D.σ b n) (k.castLE (by decide))))

/-- The arrays hold the data. -/
structure Holds (D : Data) : Prop where
  x : ∀ b k n, V c main_call0_v0 (ix3 b k n) = (D.X b n k : EReal)
  y : ∀ b j k, V c main_call0_v1 (ix3 b j k) = (D.Y b j k : EReal)
  p : ∀ b n k, V c main_arg0 (ix3 b n k) = (D.P b n k : EReal)
  jf : ∀ b j k, V c main_call0_v3 (ix3 b j k) = (D.JF b j k : EReal)
  w : ∀ k, V c main_arg4 (ix1 k) = (D.w k : EReal)
  β : V c main_call0_v5 (ix1 0) = D.β
  bm : ∀ o, V c main_call0_v6 (ix2 0 o) = (D.bm o : EReal)
  W : ∀ o k, V c main_call0_v4 (ix2 o k) = (D.W o k : EReal)
  ord : ∀ b n, Ordered (fun i => near (D.X b n) (pt (D.Y b) i)) (D.σ b n)

variable {V c}

/-- A grid point's tile is the linear stage on its cloud. -/
theorem tile_value {D : Data} (hD : Holds V c D) (t : Fin cfg0.N) (n : Fin 4096) (o : Fin 256) :
    tileAt V c t (ix2 n o) = (D.lin o (cloud t) n : EReal) := by
  have h3 := fun j k => (blk0_1 V c t j k).trans (hD.y (cloud t) j k)
  have h5 := fun k n => (blk0_0 V c t k n).trans (hD.x (cloud t) k n)
  have hw : ∀ (k : Fin 4) (h : ∀ a, (![k.val] : Fin 1 → Nat) a + S1.size a ≤ S4.size a),
      View.ld (iblk0 V c 4 t) (Rect.unit (s := S4) ![k.val] S1.size h) (Shape.Idx.first (s := S1) (by decide)) = (D.w k : EReal) := fun k h =>
    (View.ld_unit_apply_of _ _ _ _ _ (ix1 k) (by intro a; fin_cases a; simp [Shape.Idx.first])).trans ((blk0_4 V c t k).trans (hD.w k))
  have hb : View.ld (iblk0 V c 5 t) (Rect.unit (s := S1) ![0] S1.size inb_S1_S1_0) (Shape.Idx.first (s := S1) (by decide)) = D.β :=
    (View.ld_unit_apply_of _ _ _ _ _ (ix1 0) (by intro a; fin_cases a; simp [Shape.Idx.first])).trans ((blk0_5 V c t).trans hD.β)
  have h20 := fun j => pay20_apply (w := D.w) h3 h5 (hw 0 inb_S4_S1_0) hb (hw 1 inb_S4_S1_1) (hw 2 inb_S4_S1_2) (hw 3 inb_S4_S1_3) j n
  have h21 := fun j => pay21_apply h3 h5 j n
  have H := hD.ord (cloud t) n
  unfold tileAt tile
  refine pay25_apply H h20 (fun j => pay23_apply H h21 h20 j) (fun j => pay24_apply H h21 j)
    (fun j k => (blk0_3 V c t j k).trans (hD.jf _ j k)) (fun k => ?_) (fun k => (blk0_2 V c t n k).trans (hD.p _ n k)) (fun k => ?_)
    ((blk0_6 V c t o).trans (hD.bm o))
  · exact (View.ld_unit_apply_of _ _ _ _ _ (ix2 o ⟨256 + k.val, by omega⟩) (by intro a; fin_cases a <;> simp)).trans ((blk0_7 V c t o _).trans (hD.W o _))
  · exact (View.ld_unit_apply_of _ _ _ _ _ (ix2 o ⟨k.val, by omega⟩) (by intro a; fin_cases a <;> simp)).trans ((blk0_7 V c t o _).trans (hD.W o _))

/-- The first region's first output. -/
theorem arr8 {D : Data} (hD : Holds V c D) :
    (dat0 V c).arrAt 8 cfg0.N = fun i : S16x4096x256.Idx => ((D.lin (i 2) (i 0) (i 1) : ℝ) : EReal) := by
  refine (dat0 V c).arrAt_eq_of_covers 8 _ (by decide +kernel) fun t hf y => ?_
  blk_simp
  rw [after0_8, outsAt0_fst]
  obtain ⟨n, o, rfl⟩ : ∃ (n : Fin 4096) (o : Fin 256), y = ix3 0 n o :=
    ⟨y 1, y 2, funext fun a => by fin_cases a <;> first | rfl | exact Subsingleton.elim (α := Fin 1) _ _⟩
  refine Eq.trans (by pointwise! [k0_pay1]) ((tile_value hD t n o).trans ?_)
  have e0 : (win0_8.blk t).view.emb (ix3 0 n o) 0 = cloud t := Fin.ext (by blk_simp [index0 t, cloud]; simp)
  have e1 : (win0_8.blk t).view.emb (ix3 0 n o) 1 = n := Fin.ext (by blk_simp [index0 t])
  have e2 : (win0_8.blk t).view.emb (ix3 0 n o) 2 = o := Fin.ext (by blk_simp [index0 t])
  rw [e0, e1, e2]

/-- The sum over the grid's points of what each adds, as the sum over the clouds. -/
theorem sum_points (f : Fin 16 → ℝ) : ∑ t : Fin cfg0.N, ((f (cloud t) : ℝ) : EReal) = ((∑ b, f b : ℝ) : EReal) := by
  rw [coe_sum]; rfl

/-- The first row of the first region's second output. -/
theorem arr9_0 {D : Data} (hD : Holds V c D) (o : Fin 256) :
    (dat0 V c).arrAt 9 cfg0.N (ix2 0 o) = ((∑ b, ∑ n, D.lin o b n : ℝ) : EReal) := by
  have h := (dat0 V c).arrAt_emb_eq_after_last 9 t0_15 (by decide +kernel) (ix2 0 o)
  blk_simp at h
  rw [h, after0_9]
  refine (Pipeline.eq_sum_fin_of_reset_step_apply_last (fun n h (o : Fin 256) => ((outsAt0 V c n h).2 (ix2 0 o) : EReal)) 16 (fun _ => 0)
    (fun t o => ((∑ n, D.lin o (cloud t) n : ℝ) : EReal)) (fun t h o => ?_) (fun t h o => ?_) (le_of_eq N_0) t0_15 rfl o).trans ?_
  · simp only [row0_reset V c t h, tile_value hD, ← coe_sum, zero_add]
  · simp only [row0_step V c t h, tile_value hD, ← coe_sum]
  · rw [zero_add]; exact sum_points fun b => ∑ n, D.lin o b n

/-- The second row of the first region's second output. -/
theorem arr9_1 {D : Data} (hD : Holds V c D) (o : Fin 256) :
    (dat0 V c).arrAt 9 cfg0.N (ix2 1 o) = ((∑ b, ∑ n, D.lin o b n * D.lin o b n : ℝ) : EReal) := by
  have h := (dat0 V c).arrAt_emb_eq_after_last 9 t0_15 (by decide +kernel) (ix2 1 o)
  blk_simp at h
  rw [h, after0_9]
  refine (Pipeline.eq_sum_fin_of_reset_step_apply_last (fun n h (o : Fin 256) => ((outsAt0 V c n h).2 (ix2 1 o) : EReal)) 16 (fun _ => 0)
    (fun t o => ((∑ n, D.lin o (cloud t) n * D.lin o (cloud t) n : ℝ) : EReal)) (fun t h o => ?_) (fun t h o => ?_) (le_of_eq N_0) t0_15 rfl o).trans ?_
  · simp only [row1_reset V c t h, tile_value hD, ← EReal.coe_mul, ← coe_sum, zero_add]
  · simp only [row1_step V c t h, tile_value hD, ← EReal.coe_mul, ← coe_sum]
  · rw [zero_add]; exact sum_points fun b => ∑ n, D.lin o b n * D.lin o b n

/-- The second region's index maps. -/
theorem index1 : ∀ t : Fin grid1.N, win1_0.index t = ![t.val, 0, 0] ∧ win1_1.index t = ![0, 0] ∧ win1_2.index t = ![0, 0]
    ∧ win1_3.index t = ![0, 0] ∧ win1_4.index t = ![t.val, 0, 0] := by decide +kernel

/-- The cloud a grid point of the second region works on. -/
def cloud1 (t : Fin cfg1.N) : Fin 16 := ⟨t.val, t.isLt⟩

/-- Where each input block of the second region reads its array. -/
theorem blk1_0 (t : Fin cfg1.N) (n : Fin 4096) (o : Fin 256) : iblk1 V c 0 t (ix3 0 n o) = V c main_call0_v7_0 (ix3 (cloud1 t) n o) := by
  blk_ext [iblk1, index1 t, cloud1]
/-- The sums' block. -/
theorem blk1_1 (t : Fin cfg1.N) (r : Fin 8) (o : Fin 256) : iblk1 V c 1 t (ix2 r o) = V c main_call0_v7_1 (ix2 r o) := by
  blk_ext [iblk1, index1 t]
/-- The scales' block. -/
theorem blk1_2 (t : Fin cfg1.N) (o : Fin 256) : iblk1 V c 2 t (ix2 0 o) = V c main_call0_v8 (ix2 0 o) := by
  blk_ext [iblk1, index1 t]
/-- The shifts' block. -/
theorem blk1_3 (t : Fin cfg1.N) (o : Fin 256) : iblk1 V c 3 t (ix2 0 o) = V c main_call0_v9 (ix2 0 o) := by
  blk_ext [iblk1, index1 t]

/-- The second region's output. -/
theorem arr1 {Z : Fin 256 → Fin 16 → Fin 4096 → ℝ} {γ : Fin 256 → ℝ} {β : Fin 256 → EReal}
    (hz : ∀ b n o, V c main_call0_v7_0 (ix3 b n o) = (Z o b n : EReal))
    (h0 : ∀ o, V c main_call0_v7_1 (ix2 0 o) = ((∑ b, ∑ n, Z o b n : ℝ) : EReal))
    (h1 : ∀ o, V c main_call0_v7_1 (ix2 1 o) = ((∑ b, ∑ n, Z o b n * Z o b n : ℝ) : EReal))
    (hγ : ∀ o, V c main_call0_v8 (ix2 0 o) = (γ o : EReal)) (hβ : ∀ o, V c main_call0_v9 (ix2 0 o) = β o) :
    (dat1 V c).arrAt 4 cfg1.N = fun i : S16x4096x256.Idx => normed (Z (i 2)) (γ (i 2)) (β (i 2)) (i 0) (i 1) := by
  refine (dat1 V c).arrAt_eq_of_covers 4 _ (by decide +kernel) fun t hf y => ?_
  blk_simp
  rw [after1_4]
  frame_out
  obtain ⟨n, o, rfl⟩ : ∃ (n : Fin 4096) (o : Fin 256), y = ix3 0 n o :=
    ⟨y 1, y 2, funext fun a => by fin_cases a <;> first | rfl | exact Subsingleton.elim (α := Fin 1) _ _⟩
  have e0 : (win1_4.blk t).view.emb (ix3 0 n o) 0 = cloud1 t := Fin.ext (by blk_simp [index1 t, cloud1]; simp)
  have e1 : (win1_4.blk t).view.emb (ix3 0 n o) 1 = n := Fin.ext (by blk_simp [index1 t])
  have e2 : (win1_4.blk t).view.emb (ix3 0 n o) 2 = o := Fin.ext (by blk_simp [index1 t])
  rw [e0, e1, e2]
  refine pay1_apply (X := Z o) ?_ ?_ ((blk1_2 t o).trans (hγ o)) ((blk1_3 t o).trans (hβ o)) ((blk1_0 t n o).trans (hz _ n o))
  · exact (ld_row _ 0 _ o).trans ((blk1_1 t 0 o).trans (h0 o))
  · exact (ld_row _ 1 _ o).trans ((blk1_1 t 1 o).trans (h1 o))

end Cert.KernelIdeal.Val
-- ==== Proof.HostVals.lean ====
module

public import proofs.«01_k».proof.Proof.Regions
public import Idealize.ShloMosaic.Lib.Claim

@[expose] public section

set_option maxRecDepth 16384

noncomputable section

namespace Cert.KernelIdeal.Val

open Idealize.ShloMosaic Idealize.ShloMosaic.TcCoe Cert.KernelIdeal Cert.KernelIdeal.Gen Cert.Knn

variable (m : (ℓ : Loc nD τ sig) → Buf (Elt Ideal) ℓ) (ρ : Fin nD → PrngReg) (c : Dev nD)

/-- Three rows appended to 21, at an index. -/
theorem pad_rows {N : Nat} (x : (⟨3, ![16, 21, N]⟩ : Shape).Idx → EReal) {u : Shape} (v : u.Idx → EReal)
    (h : (⟨3, ![16, 21, N]⟩ : Shape).Pads ![0, 0, 0] ![0, 3, 0] ![0, 0, 0] ⟨3, ![16, 24, N]⟩) (hu : 0 < u.numel)
    (hv : v (Shape.Idx.first hu) = 0) (b : Fin 16) (j : Fin 24) (k : Fin N) :
    pad ⟨3, ![16, 24, N]⟩ ![0, 0, 0] ![0, 3, 0] ![0, 0, 0] x v h hu (ix3 b j k)
      = if hj : j.val < 21 then x (ix3 b ⟨j.val, hj⟩ k) else (0 : EReal) := by
  unfold pad
  by_cases hj : j.val < 21
  · rw [dif_pos hj, dif_pos]
    · congr 1
      funext a
      fin_cases a <;> exact Fin.ext (by simp [ix3])
    · intro a
      fin_cases a
      · simp [ix3, Nat.mod_one]
      · simpa [ix3, Nat.mod_one] using hj
      · simp [ix3, Nat.mod_one]
  · rw [dif_neg hj, dif_neg, hv]
    intro hin
    have h1 : (j.val - 0) / (0 + 1) < 21 := (hin 1).2.2
    exact hj (by simpa using h1)

/-- The transposed cloud. -/
theorem host_x (b : Fin 16) (k : Fin 3) (n : Fin 4096) :
    V1 m ρ c main_call0_v0 (ix3 b k n) = m ((c : Thread nD τ).loc main_arg2) (ix3 b n k) := by
  change StableHlo.after hostOps0 (W0 m ρ c) (Proc.devRef .tc main_call0_v0) (ix3 b k n) = _
  entry_read
  change transpose S16x3x4096 [0, 2, 1] (m ((c : Thread nD τ).loc main_arg2)) transposes_S16x4096x3_S16x3x4096_0_2_1 (ix3 b k n) = _
  pointwise!

/-- The padded joints. -/
theorem host_y (b : Fin 16) (j : Fin 24) (k : Fin 3) :
    V1 m ρ c main_call0_v1 (ix3 b j k)
      = if h : j.val < 21 then m ((c : Thread nD τ).loc main_arg3) (ix3 b ⟨j.val, h⟩ k) else (0 : EReal) := by
  change StableHlo.after hostOps0 (W0 m ρ c) (Proc.devRef .tc main_call0_v1) (ix3 b j k) = _
  entry_read
  change pad S16x24x3 ![0, 0, 0] ![0, 3, 0] ![0, 0, 0] (m ((c : Thread nD τ).loc main_arg3)) (sitofp (F := Ideal) .f32 (constantI S_ 32 0#32)) pads_S16x21x3_S16x24x3_000_030_000 h_S_ (ix3 b j k) = _
  exact pad_rows _ _ _ _ (by change (((0#32 : BitVec 32).toInt : ℝ) : EReal) = 0; simp) b j k

/-- The padded joint features. -/
theorem host_jf (b : Fin 16) (j : Fin 24) (k : Fin 256) :
    V1 m ρ c main_call0_v3 (ix3 b j k)
      = if h : j.val < 21 then m ((c : Thread nD τ).loc main_arg1) (ix3 b ⟨j.val, h⟩ k) else (0 : EReal) := by
  change StableHlo.after hostOps0 (W0 m ρ c) (Proc.devRef .tc main_call0_v3) (ix3 b j k) = _
  entry_read
  change pad S16x24x256 ![0, 0, 0] ![0, 3, 0] ![0, 0, 0] (m ((c : Thread nD τ).loc main_arg1)) (sitofp (F := Ideal) .f32 (constantI S_ 32 0#32)) pads_S16x21x256_S16x24x256_000_030_000 h_S_ (ix3 b j k) = _
  exact pad_rows _ _ _ _ (by change (((0#32 : BitVec 32).toInt : ℝ) : EReal) = 0; simp) b j k

/-- The weights' array is the argument. -/
theorem host_W (o : Fin 256) (k : Fin 512) :
    V1 m ρ c main_call0_v4 (ix2 o k) = m ((c : Thread nD τ).loc main_arg6) (ix2 o k) := by
  change StableHlo.after hostOps0 (W0 m ρ c) (Proc.devRef .tc main_call0_v4) (ix2 o k) = _
  entry_read
  pointwise!

/-- The gate's additive term is the argument. -/
theorem host_br : V1 m ρ c main_call0_v5 (ix1 0) = m ((c : Thread nD τ).loc main_arg5) ix0 := by
  change StableHlo.after hostOps0 (W0 m ρ c) (Proc.devRef .tc main_call0_v5) (ix1 0) = _
  entry_read
  pointwise!

/-- The linear stage's additive terms are the argument. -/
theorem host_bm (o : Fin 256) : V1 m ρ c main_call0_v6 (ix2 0 o) = m ((c : Thread nD τ).loc main_arg7) (ix1 o) := by
  change StableHlo.after hostOps0 (W0 m ρ c) (Proc.devRef .tc main_call0_v6) (ix2 0 o) = _
  entry_read
  pointwise!

/-- The normalisation's scales are the argument. -/
theorem host_g (o : Fin 256) : V3 m ρ c main_call0_v8 (ix2 0 o) = m ((c : Thread nD τ).loc main_arg8) (ix1 o) := by
  change StableHlo.after hostOps1 (W2 m ρ c) (Proc.devRef .tc main_call0_v8) (ix2 0 o) = _
  entry_read
  pointwise!

/-- The normalisation's shifts are the argument. -/
theorem host_b (o : Fin 256) : V3 m ρ c main_call0_v9 (ix2 0 o) = m ((c : Thread nD τ).loc main_arg9) (ix1 o) := by
  change StableHlo.after hostOps1 (W2 m ρ c) (Proc.devRef .tc main_call0_v9) (ix2 0 o) = _
  entry_read
  pointwise!

end Cert.KernelIdeal.Val
-- ==== Proof.Inputs.lean ====
module

public import proofs.«01_k».proof.Proof.Math
public import Idealize.ShloMosaic.Lib.Pointwise

@[expose] public section

noncomputable section

namespace Cert.Knn

open Idealize.ShloMosaic

/-- The real numbers behind the arguments, the two additive terms that may be infinite kept as they are. -/
structure Inputs where
  P : Fin 16 → Fin 4096 → Fin 256 → ℝ
  JF : Fin 16 → Fin 21 → Fin 256 → ℝ
  X : Fin 16 → Fin 4096 → Fin 3 → ℝ
  Y : Fin 16 → Fin 21 → Fin 3 → ℝ
  w : Fin 4 → ℝ
  β : EReal
  W : Fin 256 → Fin 512 → ℝ
  bm : Fin 256 → ℝ
  γ : Fin 256 → ℝ
  δ : Fin 256 → EReal

/-- The linear stage at an output column and a point, each point's joints listed in an order. -/
def Inputs.lin (I : Inputs) (σ : Fin 16 → Fin 4096 → Fin 21 → Fin 21) (o : Fin 256) (b : Fin 16) (n : Fin 4096) : ℝ :=
  Knn.lin (I.P b n) (fun c => I.W o ⟨c.val, by omega⟩) (fun c => I.W o ⟨256 + c.val, by omega⟩) (I.bm o)
    (fun k => gate I.w I.β (I.X b n) (I.Y b (σ b n (k.castLE (by decide)))))
    (fun k => I.JF b (σ b n (k.castLE (by decide))))

/-- The program's result: the linear stage normalised, scaled, shifted and cut off below zero. -/
def Inputs.out (I : Inputs) (σ : Fin 16 → Fin 4096 → Fin 21 → Fin 21) (b : Fin 16) (n : Fin 4096) (o : Fin 256) : EReal :=
  normed (I.lin σ o) (I.γ o) (I.δ o) b n

/-- The argument arrays hold the inputs. -/
structure Inputs.Held (I : Inputs) (a0 : (⟨3, ![16, 4096, 256]⟩ : Shape).Idx → EReal) (a1 : (⟨3, ![16, 21, 256]⟩ : Shape).Idx → EReal)
    (a2 : (⟨3, ![16, 4096, 3]⟩ : Shape).Idx → EReal) (a3 : (⟨3, ![16, 21, 3]⟩ : Shape).Idx → EReal)
    (a4 : (⟨1, ![4]⟩ : Shape).Idx → EReal) (a5 : (⟨0, ![]⟩ : Shape).Idx → EReal) (a6 : (⟨2, ![256, 512]⟩ : Shape).Idx → EReal)
    (a7 a8 a9 : (⟨1, ![256]⟩ : Shape).Idx → EReal) : Prop where
  p : ∀ b n k, a0 (ix3 b n k) = (I.P b n k : EReal)
  jf : ∀ b j k, a1 (ix3 b j k) = (I.JF b j k : EReal)
  x : ∀ b n k, a2 (ix3 b n k) = (I.X b n k : EReal)
  y : ∀ b j k, a3 (ix3 b j k) = (I.Y b j k : EReal)
  w : ∀ k, a4 (ix1 k) = (I.w k : EReal)
  β : a5 ix0 = I.β
  W : ∀ o k, a6 (ix2 o k) = (I.W o k : EReal)
  bm : ∀ o, a7 (ix1 o) = (I.bm o : EReal)
  γ : ∀ o, a8 (ix1 o) = (I.γ o : EReal)
  δ : ∀ o, a9 (ix1 o) = I.δ o

end Cert.Knn
-- ==== Proof.KernelRun.lean ====
module

public import proofs.«01_k».proof.Proof.HostVals
public import proofs.«01_k».proof.Proof.Inputs

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Knn

local notation "𝕄" => MT nD τ sig Unit (Elt Ideal) ℕ (UR sig nD τ) ℕ

variable (m : (ℓ : Loc nD τ sig) → Buf (Elt Ideal) ℓ) (ρ : Fin nD → PrngReg)

/-- The inputs as the first region's arrays hold them: the joints and their features padded with zero rows. -/
def dataOf (I : Inputs) (σ : Fin 16 → Fin 4096 → Fin 21 → Fin 21) : Data where
  X := I.X
  Y := fun b j k => if h : j.val < 21 then I.Y b ⟨j.val, h⟩ k else 0
  P := I.P
  JF := fun b j k => if h : j.val < 21 then I.JF b ⟨j.val, h⟩ k else 0
  w := I.w
  β := I.β
  bm := I.bm
  W := I.W
  σ := σ

/-- The padding is never read. -/
theorem dataOf_lin (I : Inputs) (σ : Fin 16 → Fin 4096 → Fin 21 → Fin 21) : (dataOf I σ).lin = I.lin σ := by
  funext o b n
  have hY : ∀ i : Fin 21, (dataOf I σ).Y b (row (σ b n) i) = I.Y b (σ b n i) := fun i => funext fun k => dif_pos (σ b n i).isLt
  have hF : ∀ i : Fin 21, (dataOf I σ).JF b (row (σ b n) i) = I.JF b (σ b n i) := fun i => funext fun k => dif_pos (σ b n i).isLt
  unfold Data.lin Inputs.lin
  show Knn.lin _ _ _ _ (fun k => gate I.w I.β (I.X b n) ((dataOf I σ).Y b (row (σ b n) _))) (fun k => (dataOf I σ).JF b (row (σ b n) _)) = _
  simp only [hY, hF]
  rfl

variable {m}

/-- The memory's argument arrays hold the inputs. -/
abbrev HeldAt (m : (ℓ : Loc nD τ sig) → Buf (Elt Ideal) ℓ) (I : Inputs) (c : Dev nD) : Prop :=
  I.Held (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The first region is entered with its arrays holding the inputs. -/
theorem holds_entry {I : Inputs} {σ : Fin 16 → Fin 4096 → Fin 21 → Fin 21} {c : Dev nD} (h : HeldAt m I c)
    (ho : ∀ b n, Ordered (fun i => near (I.X b n) (I.Y b i)) (σ b n)) : Holds (V1 m ρ) c (dataOf I σ) where
  x b k n := (host_x m ρ c b k n).trans (h.x b n k)
  y b j k := (host_y m ρ c b j k).trans (by
    by_cases hj : j.val < 21
    · rw [dif_pos hj, h.y]; simp only [dataOf, dif_pos hj]
    · rw [dif_neg hj]; simp only [dataOf, dif_neg hj]; rfl)
  p b n k := (congrFun (W1_args m ρ c main_arg0 (by decide)) _).trans (h.p b n k)
  jf b j k := (host_jf m ρ c b j k).trans (by
    by_cases hj : j.val < 21
    · rw [dif_pos hj, h.jf]; simp only [dataOf, dif_pos hj]
    · rw [dif_neg hj]; simp only [dataOf, dif_neg hj]; rfl)
  w k := (congrFun (W1_args m ρ c main_arg4 (by decide)) _).trans (h.w k)
  β := (host_br m ρ c).trans h.β
  bm o := (host_bm m ρ c o).trans (h.bm o)
  W o k := (host_W m ρ c o k).trans (h.W o k)
  ord b n := by
    have hY : ∀ i : Fin 21, pt ((dataOf I σ).Y b) i = I.Y b i := fun i => funext fun k => dif_pos i.isLt
    simp only [hY]
    exact ho b n

/-- What the second region leaves in the result array. -/
theorem result {I : Inputs} {σ : Fin 16 → Fin 4096 → Fin 21 → Fin 21} {c : Dev nD} (h : HeldAt m I c)
    (ho : ∀ b n, Ordered (fun i => near (I.X b n) (I.Y b i)) (σ b n)) :
    W4 m ρ c (Proc.devRef .tc main_v0) = fun i : S16x4096x256.Idx => I.out σ (i 0) (i 1) (i 2) := by
  have hD := holds_entry ρ h ho
  have e0 : V3 m ρ c main_call0_v7_0 = (dat0 (V1 m ρ) c).arrAt 8 cfg0.N :=
    (W3_of m ρ c main_call0_v7_0 (by decide)).trans (W2_arr m ρ c 8)
  have e1 : V3 m ρ c main_call0_v7_1 = (dat0 (V1 m ρ) c).arrAt 9 cfg0.N :=
    (W3_of m ρ c main_call0_v7_1 (by decide)).trans (W2_arr m ρ c 9)
  refine (W4_arr m ρ c 4).trans ((arr1 (Z := (dataOf I σ).lin) (γ := I.γ) (β := I.δ) (fun b n o => ?_) (fun o => ?_) (fun o => ?_)
    (fun o => (host_g m ρ c o).trans (h.γ o)) (fun o => (host_b m ρ c o).trans (h.δ o))).trans ?_)
  · exact (congrFun (e0.trans (arr8 hD)) _).trans rfl
  · exact (congrFun e1 _).trans (arr9_0 hD o)
  · exact (congrFun e1 _).trans (arr9_1 hD o)
  · rw [dataOf_lin]; rfl

variable (m)

-- the launch's implicit arguments are found by unifying its conclusion with this one, which unfolds plain definitions
-- in a type still to be found
set_option backward.isDefEq.respectTransparency.types false in
/-- The whole program's run: the result array at the last boundary's contents, every argument as launched. -/
theorem run : θ_run defs (onTc (τ := τ) (main (F := Ideal))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Val
-- ==== Proof.Order.lean ====
module

public import proofs.«01_k».proof.Proof.Inputs
public import Idealize.ShloMosaic.Lib.SortFacts

@[expose] public section

noncomputable section

namespace Cert.Knn

open Idealize.ShloMosaic

/-- The order a stable sort puts 21 real keys in. -/
def order (d : Fin 21 → ℝ) : Fin 21 → Fin 21 := sortedFrom fun i j => decide (d i < d j)

/-- A later place never holds a smaller key. -/
theorem order_le (d : Fin 21 → ℝ) (i j : Fin 21) (h : i ≤ j) : d (order d i) ≤ d (order d j) := by
  rcases h.eq_or_lt with rfl | h
  · exact le_refl _
  · have := sortedFrom_noInversion (fun i j => decide (d i < d j)) (fun i j => decide (d i < d j))
      (fun a b h => by simp only [decide_eq_true_eq, decide_eq_false_iff_not, not_lt] at h ⊢; exact h.le) (fun _ _ h => h)
      (fun a b c h₁ h₂ => by simp only [decide_eq_false_iff_not, not_lt] at h₁ h₂ ⊢; exact h₂.trans h₁) i j h
    exact not_lt.mp (of_decide_eq_false this)

/-- Where the first five keys in order are strictly increasing, the order is as the selection needs it. -/
theorem ordered_order {d : Fin 21 → ℝ} (h : ∀ i j : Fin 21, i.val < 4 → j.val = i.val + 1 → d (order d i) < d (order d j)) :
    Ordered d (order d) :=
  ⟨sortedFrom_injective _, order_le d, h⟩

/-- Keys that differ by one number everywhere are ordered alike. -/
theorem Ordered.of_add {d e : Fin 21 → ℝ} {σ : Fin 21 → Fin 21} {s : ℝ} (h : Ordered d σ) (he : ∀ i, d i = e i + s) : Ordered e σ := by
  refine ⟨h.inj, fun i j hij => ?_, fun i j hi hij => ?_⟩
  · have := h.le i j hij
    rw [he, he] at this; linarith
  · have := h.lt i j hi hij
    rw [he, he] at this; linarith

/-- The squared distance computed from its three sums. -/
theorem sqd_coe (x y : Fin 3 → ℝ) :
    Ideal.ofBits .f32 0xC0000000#32 * (∑ c, (x c : EReal) * (y c : EReal)) + (∑ c, (x c : EReal) * (x c : EReal)) + (∑ c, (y c : EReal) * (y c : EReal))
      = (sqd x y : EReal) := by
  rw [ofBits_neg_two]
  simp only [← EReal.coe_mul, ← coe_sum, ← EReal.coe_add]
  rfl

/-- What a sort's comparison of two reals is: both are made canonical where they are zero or no number, which changes
    neither, and compared. -/
theorem canonical_lt (a b : ℝ) (z w : EReal) (hz : z = 0) :
    Ideal.cmpTotal .lt (Scalar.select (Ideal.cmp .une (a : EReal) a) w (Scalar.select (Ideal.cmp .oeq (a : EReal) z) z a))
      (Scalar.select (Ideal.cmp .une (b : EReal) b) w (Scalar.select (Ideal.cmp .oeq (b : EReal) z) z b)) = BitVec.ofBool (decide (a < b)) := by
  have h : ∀ r : ℝ, Scalar.select (Ideal.cmp .une (r : EReal) r) w (Scalar.select (Ideal.cmp .oeq (r : EReal) z) z r) = (r : EReal) := by
    intro r
    have h1 : Ideal.cmp .une (r : EReal) r = 0#1 := by simp [Ideal.cmp]
    rw [h1]
    by_cases hr : (r : EReal) = z
    · have h2 : Ideal.cmp .oeq (r : EReal) z = 1#1 := by simp [Ideal.cmp, hr]
      rw [h2, ← hr]; rfl
    · have h2 : Ideal.cmp .oeq (r : EReal) z = 0#1 := by simp [Ideal.cmp, hr]
      rw [h2]; rfl
  rw [h, h]
  show BitVec.ofBool (decide ((a : EReal) < b)) = _
  simp only [EReal.coe_lt_coe_iff]

/-- A sort of real keys with a carried array reads both in the keys' order. -/
theorem sort_read {f : EReal × BitVec 32 → EReal × BitVec 32 → BitVec 1} (hf : ∀ (a b : ℝ) p q, f ((a : EReal), p) ((b : EReal), q) = BitVec.ofBool (decide (a < b)))
    (x : (⟨3, ![16, 4096, 21]⟩ : Shape).Idx → EReal) (y : (⟨3, ![16, 4096, 21]⟩ : Shape).Idx → BitVec 32) (b : Fin 16) (n : Fin 4096)
    {d : Fin 21 → ℝ} (hx : ∀ i, x (ix3 b n i) = (d i : EReal)) (i : Fin 21) :
    (Host.sort2 ⟨3, ![16, 4096, 21]⟩ 2 f x y).1 (ix3 b n i) = (d (order d i) : EReal)
      ∧ (Host.sort2 ⟨3, ![16, 4096, 21]⟩ 2 f x y).2 (ix3 b n i) = y (ix3 b n (order d i)) := by
  have ha : ∀ k : Fin 21, Shape.Idx.along (s := ⟨3, ![16, 4096, 21]⟩) (ix3 b n i) (2 : Fin 3) k = ix3 b n k := fun k => funext fun e => by
    fin_cases e <;> rfl
  have hp : (sortedFrom (n := 21) fun k k' => f (x (Shape.Idx.along (s := ⟨3, ![16, 4096, 21]⟩) (ix3 b n i) (2 : Fin 3) k), y (Shape.Idx.along (s := ⟨3, ![16, 4096, 21]⟩) (ix3 b n i) (2 : Fin 3) k))
        (x (Shape.Idx.along (s := ⟨3, ![16, 4096, 21]⟩) (ix3 b n i) (2 : Fin 3) k'), y (Shape.Idx.along (s := ⟨3, ![16, 4096, 21]⟩) (ix3 b n i) (2 : Fin 3) k')) == 1#1) = order d := by
    unfold order
    congr 1
    funext k k'
    simp only [ha, hx, hf]
    by_cases h : d k < d k' <;> simp [h]
  exact ⟨(congrArg (fun t : Fin 21 => x (Shape.Idx.along (s := ⟨3, ![16, 4096, 21]⟩) (ix3 b n i) (2 : Fin 3) t)) (congrFun hp i)).trans (by rw [ha, hx]),
    (congrArg (fun t : Fin 21 => y (Shape.Idx.along (s := ⟨3, ![16, 4096, 21]⟩) (ix3 b n i) (2 : Fin 3) t)) (congrFun hp i)).trans (by rw [ha])⟩

end Cert.Knn
-- ==== Proof.Pre.lean ====
module

public import proofs.«01_k».proof.Proof.Gen.Pre_tame
public import proofs.«01_k».proof.Proof.Order
public import Idealize.ShloMosaic.Lib.ReduceAll

@[expose] public section

set_option maxRecDepth 16384

noncomputable section

namespace Cert.Pre_tame

open Idealize.ShloMosaic Cert.Pre_tame Cert.Knn

/-- A number whose absolute value is below `+∞` is a real one. -/
theorem real_of_abs (x : EReal) (h : Ideal.cmp .olt (max x (-x)) (Ideal.ofBits .f32 0x7F800000#32) = 1#1) : ∃ r : ℝ, x = (r : EReal) := by
  rw [ofBits_inf] at h
  have h' : max x (-x) < ⊤ := by
    by_contra hc
    have : Ideal.cmp .olt (max x (-x)) ⊤ = 0#1 := by
      show BitVec.ofBool (decide (max x (-x) < ⊤)) = 0#1
      rw [decide_eq_false hc]; rfl
    rw [this] at h
    exact absurd h (by decide)
  induction x with
  | bot => simp at h'
  | top => simp at h'
  | coe r => exact ⟨r, rfl⟩

variable [Facts]

/-- The sort's comparison, on two reals. -/
theorem comparator_real (a b : ℝ) (p q : BitVec 32) :
    comparator_f32_i32_d2 (F := Ideal) ((a : EReal), p) ((b : EReal), q) = BitVec.ofBool (decide (a < b)) :=
  canonical_lt a b _ _ (by pointwise)

variable {a0 : S16x4096x256.Idx → EReal} {a1 : S16x21x256.Idx → EReal} {a2 : S16x4096x3.Idx → EReal} {a3 : S16x21x3.Idx → EReal}
  {a4 : S4.Idx → EReal} {a5 : S_.Idx → EReal} {a6 : S256x512.Idx → EReal} {a7 a8 a9 : S256.Idx → EReal}

/-- The precondition's parts: every array finite but the two that may be infinite, and the first five distances of each
    point in order strictly increasing. -/
theorem parts (h : ∀ i, fn (F := Ideal) a0 a1 a2 a3 a4 a5 a6 a7 a8 a9 i = 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a6 i = (r : EReal))
      ∧ (∀ i, ∃ r : ℝ, a7 i = (r : EReal)) ∧ (∀ i, ∃ r : ℝ, a8 i = (r : EReal)) := by
  have h0 := h (ix3 0 0 0)
  simp only [fn, fn_part1, fn_part2, fn_part3] at h0
  obtain ⟨h1, -⟩ := IntOp.andi_eq_one.1 h0
  obtain ⟨h1, e8⟩ := IntOp.andi_eq_one.1 h1
  obtain ⟨h1, e7⟩ := IntOp.andi_eq_one.1 h1
  obtain ⟨h1, e6⟩ := IntOp.andi_eq_one.1 h1
  obtain ⟨h1, e4⟩ := IntOp.andi_eq_one.1 h1
  obtain ⟨h1, e3⟩ := IntOp.andi_eq_one.1 h1
  obtain ⟨h1, e2⟩ := IntOp.andi_eq_one.1 h1
  obtain ⟨e0, e1⟩ := IntOp.andi_eq_one.1 h1
  haveI : Subsingleton S_.Idx := ⟨fun a b => funext fun i => i.elim0⟩
  exact ⟨fun i => real_of_abs _ (Host.reduce_andi_all _ _ _ _ _ e0 i), fun i => real_of_abs _ (Host.reduce_andi_all _ _ _ _ _ e1 i),
    fun i => real_of_abs _ (Host.reduce_andi_all _ _ _ _ _ e2 i), fun i => real_of_abs _ (Host.reduce_andi_all _ _ _ _ _ e3 i),
    fun i => real_of_abs _ (Host.reduce_andi_all _ _ _ _ _ e4 i), fun i => real_of_abs _ (Host.reduce_andi_all _ _ _ _ _ e6 i),
    fun i => real_of_abs _ (Host.reduce_andi_all _ _ _ _ _ e7 i), fun i => real_of_abs _ (Host.reduce_andi_all _ _ _ _ _ e8 i)⟩

/-- The squared distances, as the precondition computes them. -/
def squared (a2 : FVec Ideal S16x4096x3 .f32) (a3 : FVec Ideal S16x21x3 .f32) : FVec Ideal S16x4096x21 .f32 :=
  addf (addf (mulf (broadcastInDim S16x4096x21 ![] Facts.bcast_S_S16x4096x21 (constant S_ .f32 0xC0000000#32))
      (Host.dotGeneral dot_S16x4096x3_S16x21x3_S16x4096x21_2_2_1_1_0_0 none a2 a3))
      (broadcastInDim S16x4096x21 ![0, 1, 2] Facts.bcast_S16x4096x1_S16x4096x21_0_1_2 (broadcastInDim S16x4096x1 ![0, 1] Facts.bcast_S16x4096_S16x4096x1_0_1
        (Host.reduceAdd (mulf a2 a2) (constant S_ .f32 0x00000000#32) Facts.reducesTo_S16x4096x3_S16x4096_d2 Facts.h_S_))))
    (broadcastInDim S16x4096x21 ![0, 1, 2] Facts.bcast_S16x1x21_S16x4096x21_0_1_2 (broadcastInDim S16x1x21 ![0, 2] Facts.bcast_S16x21_S16x1x21_0_2
      (Host.reduceAdd (mulf a3 a3) (constant S_ .f32 0x00000000#32) Facts.reducesTo_S16x21x3_S16x21_d2 Facts.h_S_)))

/-- One squared distance. -/
theorem squared_apply {I : Inputs} (hI : I.Held a0 a1 a2 a3 a4 a5 a6 a7 a8 a9) (b : Fin 16) (n : Fin 4096) (i : Fin 21) :
    squared a2 a3 (ix3 b n i) = (sqd (I.X b n) (I.Y b i) : EReal) := by
  refine Eq.trans ?_ (sqd_coe _ _)
  pointwise [squared]
  simp only [hI.x, hI.y]

/-- The first four and the next four of a sorted row. -/
theorem first_four (v : S16x4096x21.Idx → EReal) (b : Fin 16) (n : Fin 4096) (k : Fin 4) :
    extractStridedSlice S16x4096x4 ![0, 0, 0] v Facts.slices_S16x4096x21_S16x4096x4_0_0_0 (ix3 b n k) = v (ix3 b n ⟨k.val, by omega⟩) := by
  pointwise!
/-- The second to the fifth of a sorted row. -/
theorem next_four (v : S16x4096x21.Idx → EReal) (b : Fin 16) (n : Fin 4096) (k : Fin 4) :
    extractStridedSlice S16x4096x4 ![0, 0, 1] v Facts.slices_S16x4096x21_S16x4096x4_0_0_1 (ix3 b n k) = v (ix3 b n ⟨k.val + 1, by omega⟩) := by
  pointwise!

/-- The precondition's last part: each point's nearest distances in order strictly increase, so the order is as the
    selection needs it. -/
theorem ordered {I : Inputs} (hI : I.Held a0 a1 a2 a3 a4 a5 a6 a7 a8 a9)
    (h : ∀ i, fn (F := Ideal) a0 a1 a2 a3 a4 a5 a6 a7 a8 a9 i = 1#1) (b : Fin 16) (n : Fin 4096) :
    Ordered (fun i => sqd (I.X b n) (I.Y b i)) (order fun i => sqd (I.X b n) (I.Y b i)) := by
  refine ordered_order fun i j hi hj => ?_
  have h0 := h (ix3 b n ⟨i.val, hi⟩)
  simp only [fn, fn_part1, fn_part2, fn_part3] at h0
  obtain ⟨-, h1⟩ := IntOp.andi_eq_one.1 h0
  have h2 : Ideal.cmp .olt
      (extractStridedSlice S16x4096x4 ![0, 0, 0] (Host.sort2 S16x4096x21 2 (comparator_f32_i32_d2 (F := Ideal)) (squared a2 a3) (iotaInDim S16x4096x21 32 2)).1
        Facts.slices_S16x4096x21_S16x4096x4_0_0_0 (ix3 b n ⟨i.val, hi⟩))
      (extractStridedSlice S16x4096x4 ![0, 0, 1] (Host.sort2 S16x4096x21 2 (comparator_f32_i32_d2 (F := Ideal)) (squared a2 a3) (iotaInDim S16x4096x21 32 2)).1
        Facts.slices_S16x4096x21_S16x4096x4_0_0_1 (ix3 b n ⟨i.val, hi⟩)) = 1#1 := h1
  rw [first_four, next_four, (sort_read comparator_real _ _ b n (fun i => squared_apply hI b n i) _).1,
    (sort_read comparator_real _ _ b n (fun i => squared_apply hI b n i) _).1] at h2
  have e : (⟨i.val + 1, by omega⟩ : Fin 21) = j := Fin.ext hj.symm
  simp only [e] at h2
  by_contra hc
  have h3 : Ideal.cmp .olt ((sqd (I.X b n) (I.Y b (order (fun i => sqd (I.X b n) (I.Y b i)) i)) : ℝ) : EReal)
      ((sqd (I.X b n) (I.Y b (order (fun i => sqd (I.X b n) (I.Y b i)) j)) : ℝ) : EReal) = 0#1 := by
    show BitVec.ofBool (decide (_ < _)) = 0#1
    rw [decide_eq_false (by rwa [EReal.coe_lt_coe_iff])]; rfl
  exact absurd (h2.symm.trans h3) (by decide)

/-- Arguments the precondition admits hold real inputs. -/
theorem exists_inputs (h : ∀ i, fn (F := Ideal) a0 a1 a2 a3 a4 a5 a6 a7 a8 a9 i = 1#1) : ∃ I : Inputs, I.Held a0 a1 a2 a3 a4 a5 a6 a7 a8 a9 := by
  obtain ⟨e0, e1, e2, e3, e4, e6, e7, e8⟩ := parts h
  choose r0 h0 using e0
  choose r1 h1 using e1
  choose r2 h2 using e2
  choose r3 h3 using e3
  choose r4 h4 using e4
  choose r6 h6 using e6
  choose r7 h7 using e7
  choose r8 h8 using e8
  exact ⟨⟨fun b n k => r0 (ix3 b n k), fun b j k => r1 (ix3 b j k), fun b n k => r2 (ix3 b n k), fun b j k => r3 (ix3 b j k), fun k => r4 (ix1 k),
    a5 ix0, fun o k => r6 (ix2 o k), fun o => r7 (ix1 o), fun o => r8 (ix1 o), fun o => a9 (ix1 o)⟩,
    ⟨fun _ _ _ => h0 _, fun _ _ _ => h1 _, fun _ _ _ => h2 _, fun _ _ _ => h3 _, fun _ => h4 _, rfl, fun _ _ => h6 _, fun _ => h7 _,
      fun _ => h8 _, fun _ => rfl⟩⟩

end Cert.Pre_tame
-- ==== Proof.Gathers.lean ====
module

public import proofs.«01_k».proof.Proof.Gen.ReferenceIdeal.Read
public import Idealize.ShloMosaic.Lib.Pointwise

@[expose] public section

set_option maxRecDepth 16384

noncomputable section

namespace Cert.ReferenceIdeal.Val

open Idealize.ShloMosaic Cert.ReferenceIdeal Cert.ReferenceIdeal.Gen

/-- A row's number, read signed off its word and clamped to the rows, is itself. -/
theorem clamp_row (r : Fin 21) : min (BitVec.ofNat 32 r.val).toInt.toNat 20 = r.val := by
  revert r; decide

/-- The table's entry along its last axis. -/
theorem gather_entry (x : S16x4096x21.Idx → EReal) (idx : IVec S16x4096x4x1 32) (b : Fin 16) (n : Fin 4096) (k : Fin 4) (r : Fin 21)
    (h : idx (ix4 b n k 0) = BitVec.ofNat 32 r.val) :
    Host.gather gather_S16x4096x21_S16x4096x4x1_S16x4096x4_n_2_01_01_2_3_111 x idx (ix3 b n k) = x (ix3 b n r) := by
  have hs : ∀ c, gather_S16x4096x21_S16x4096x4x1_S16x4096x4_n_2_01_01_2_3_111.siIdx (ix3 b n k) c = ix4 b n k 0 := by
    intro c
    funext a
    fin_cases a
    · rfl
    · rfl
    · rfl
    · exact Subsingleton.elim (α := Fin 1) _ _
  unfold Host.gather
  refine congrArg x (funext fun a => Fin.ext ?_)
  fin_cases a
  · exact Nat.zero_add _
  · exact Nat.zero_add _
  · refine Eq.trans (b := min (idx (gather_S16x4096x21_S16x4096x4x1_S16x4096x4_n_2_01_01_2_3_111.siIdx (ix3 b n k) ⟨0, by decide⟩)).toInt.toNat 20) rfl ?_
    rw [hs, h, clamp_row]
    rfl

/-- The table's row of three. -/
theorem gather_row3 (x : S16x21x3.Idx → EReal) (idx : IVec S16x4096x4x1 32) (b : Fin 16) (n : Fin 4096) (k : Fin 4) (c : Fin 3) (r : Fin 21)
    (h : idx (ix4 b n k 0) = BitVec.ofNat 32 r.val) :
    Host.gather gather_S16x21x3_S16x4096x4x1_S16x4096x4x3_3_1_0_0_1_3_113 x idx (ix4 b n k c) = x (ix3 b r c) := by
  have hs : ∀ e, gather_S16x21x3_S16x4096x4x1_S16x4096x4x3_3_1_0_0_1_3_113.siIdx (ix4 b n k c) e = ix4 b n k 0 := by
    intro e
    funext a
    fin_cases a
    · rfl
    · rfl
    · rfl
    · exact Subsingleton.elim (α := Fin 1) _ _
  unfold Host.gather
  refine congrArg x (funext fun a => Fin.ext ?_)
  fin_cases a
  · exact Nat.zero_add _
  · refine Eq.trans (b := min (idx (gather_S16x21x3_S16x4096x4x1_S16x4096x4x3_3_1_0_0_1_3_113.siIdx (ix4 b n k c) ⟨0, by decide⟩)).toInt.toNat 20) rfl ?_
    rw [hs, h, clamp_row]
    rfl
  · exact Nat.zero_add _

/-- The table's row of 256. -/
theorem gather_row256 (x : S16x21x256.Idx → EReal) (idx : IVec S16x4096x4x1 32) (b : Fin 16) (n : Fin 4096) (k : Fin 4) (c : Fin 256) (r : Fin 21)
    (h : idx (ix4 b n k 0) = BitVec.ofNat 32 r.val) :
    Host.gather gather_S16x21x256_S16x4096x4x1_S16x4096x4x256_3_1_0_0_1_3_11256 x idx (ix4 b n k c) = x (ix3 b r c) := by
  have hs : ∀ e, gather_S16x21x256_S16x4096x4x1_S16x4096x4x256_3_1_0_0_1_3_11256.siIdx (ix4 b n k c) e = ix4 b n k 0 := by
    intro e
    funext a
    fin_cases a
    · rfl
    · rfl
    · rfl
    · exact Subsingleton.elim (α := Fin 1) _ _
  unfold Host.gather
  refine congrArg x (funext fun a => Fin.ext ?_)
  fin_cases a
  · exact Nat.zero_add _
  · refine Eq.trans (b := min (idx (gather_S16x21x256_S16x4096x4x1_S16x4096x4x256_3_1_0_0_1_3_11256.siIdx (ix4 b n k c) ⟨0, by decide⟩)).toInt.toNat 20) rfl ?_
    rw [hs, h, clamp_row]
    rfl
  · exact Nat.zero_add _

end Cert.ReferenceIdeal.Val
-- ==== Proof.Ref.lean ====
module

public import proofs.«01_k».proof.Proof.Gathers
public import proofs.«01_k».proof.Proof.Order
public import proofs.«01_k».proof.Proof.Inputs
public import Idealize.ShloMosaic.Lib.ReduceAll

/-! The reference program's values, read at an index down to the inputs. -/

@[expose] public section

set_option maxRecDepth 16384

noncomputable section

namespace Cert.ReferenceIdeal.Val

open Idealize.ShloMosaic Cert.ReferenceIdeal Cert.ReferenceIdeal.Gen Cert.ReferenceIdeal.Read Cert.Knn

/-- The sort's comparison, on two reals. -/
theorem comparator_real (a b : ℝ) (p q : BitVec 32) :
    comparator_f32_i32_d2 (F := Ideal) ((a : EReal), p) ((b : EReal), q) = BitVec.ofBool (decide (a < b)) :=
  canonical_lt a b _ _ (by pointwise)

/-- A point's joints in order of their distance. -/
abbrev sorted (I : Inputs) (b : Fin 16) (n : Fin 4096) : Fin 21 → Fin 21 := order fun i => sqd (I.X b n) (I.Y b i)

/-- A point's `k`-th nearest joint. -/
abbrev nth (I : Inputs) (b : Fin 16) (n : Fin 4096) (k : Fin 4) : Fin 21 := sorted I b n (k.castLE (by decide))

variable {I : Inputs} {x0 : FVec Ideal S16x4096x256 .f32} {x1 : FVec Ideal S16x21x256 .f32} {x2 : FVec Ideal S16x4096x3 .f32}
  {x3 : FVec Ideal S16x21x3 .f32} {x4 : FVec Ideal S4 .f32} {x5 : FVec Ideal S_ .f32} {x6 : FVec Ideal S256x512 .f32}
  {x7 x8 x9 : FVec Ideal S256 .f32}

/-- One squared distance. -/
theorem distance (hI : I.Held x0 x1 x2 x3 x4 x5 x6 x7 x8 x9) (b : Fin 16) (n : Fin 4096) (i : Fin 21) :
    val_main_v12 (F := Ideal) x2 x3 (ix3 b n i) = (sqd (I.X b n) (I.Y b i) : EReal) := by
  refine Eq.trans ?_ (sqd_coe _ _)
  pointwise [val_main_v12, val_main_v11, val_main_v10, val_main_v9, val_main_cst_1, val_main_v8, val_main_v7, val_main_v6, val_main_v5,
    val_main_v4, val_main_cst_0, val_main_v3, val_main_v2, val_main_v1, val_main_cst, val_main_v0]
  simp only [hI.x, hI.y]

/-- The number of a point's joint at a place of the order. -/
theorem ranked (hI : I.Held x0 x1 x2 x3 x4 x5 x6 x7 x8 x9) (b : Fin 16) (n : Fin 4096) (i : Fin 21) :
    val_main_v13 (F := Ideal) x2 x3 (ix3 b n i) = BitVec.ofNat 32 (sorted I b n i).val :=
  (sort_read comparator_real _ (val_main_call0_v0 (F := Ideal)) b n (fun i => distance hI b n i) i).2.trans rfl

/-- The number of a point's `k`-th nearest joint. -/
theorem nearest (hI : I.Held x0 x1 x2 x3 x4 x5 x6 x7 x8 x9) (b : Fin 16) (n : Fin 4096) (k : Fin 4) :
    val_main_v14 (F := Ideal) x2 x3 (ix3 b n k) = BitVec.ofNat 32 (nth I b n k).val := by
  refine Eq.trans ?_ (ranked hI b n (k.castLE (by decide)))
  pointwise! [val_main_v14]

/-- A row's number is not negative, so it is taken as it is. -/
theorem wrap (r : Fin 21) : Scalar.select (IntOp.cmpi .slt (BitVec.ofNat 32 r.val) 0#32) (IntOp.addi (BitVec.ofNat 32 r.val) 21#32)
    (BitVec.ofNat 32 r.val) = BitVec.ofNat 32 r.val := by
  revert r; decide

/-- A row's number lies between 0 and 20. -/
theorem inside (r : Fin 21) : IntOp.andi (IntOp.cmpi .sge (BitVec.ofNat 32 r.val) 0#32) (IntOp.cmpi .sle (BitVec.ofNat 32 r.val) 20#32) = 1#1 := by
  revert r; decide

/-- The row the distances are taken from. -/
theorem word_distance (hI : I.Held x0 x1 x2 x3 x4 x5 x6 x7 x8 x9) (b : Fin 16) (n : Fin 4096) (k : Fin 4) (e : Fin 1) :
    val_main_call1_v5 (F := Ideal) x2 x3 (ix4 b n k e) = BitVec.ofNat 32 (nth I b n k).val := by
  refine Eq.trans ?_ (wrap _)
  pointwise [val_main_call1_v5, val_main_call1_v4, val_main_call1_v3, val_main_call1_v2, val_main_call1_c_0, val_main_call1_v1,
    val_main_call1_v0, val_main_call1_c]
  simp only [nearest hI]

/-- The row the coordinates are taken from. -/
theorem word_xyz (hI : I.Held x0 x1 x2 x3 x4 x5 x6 x7 x8 x9) (b : Fin 16) (n : Fin 4096) (k : Fin 4) (e : Fin 1) :
    val_main_v21 (F := Ideal) x2 x3 (ix4 b n k e) = BitVec.ofNat 32 (nth I b n k).val := by
  refine Eq.trans ?_ (wrap _)
  pointwise [val_main_v21, val_main_v20, val_main_v19, val_main_v18, val_main_c_2, val_main_v17, val_main_v16, val_main_c]
  simp only [nearest hI]

/-- The row the features are taken from. -/
theorem word_feat (hI : I.Held x0 x1 x2 x3 x4 x5 x6 x7 x8 x9) (b : Fin 16) (n : Fin 4096) (k : Fin 4) (e : Fin 1) :
    val_main_v42 (F := Ideal) x2 x3 (ix4 b n k e) = BitVec.ofNat 32 (nth I b n k).val := by
  refine Eq.trans ?_ (wrap _)
  pointwise [val_main_v42, val_main_v41, val_main_v40, val_main_v39, val_main_c_6, val_main_v38, val_main_v37, val_main_c_5]
  simp only [nearest hI]

/-- Every row number is in bounds. -/
theorem in_bounds (hI : I.Held x0 x1 x2 x3 x4 x5 x6 x7 x8 x9) (j : S16x4096x4.Idx) :
    val_main_call1_v12 (F := Ideal) x2 x3 j = 1#1 := by
  refine Host.reduce_andi_one _ _ _ _ j rfl fun i => ?_
  obtain ⟨b, n, k, e, rfl⟩ : ∃ b n k e, i = ix4 b n k e := ⟨i 0, i 1, i 2, i 3, funext fun a => by fin_cases a <;> rfl⟩
  refine Eq.trans ?_ (inside (nth I b n k))
  pointwise [val_main_call1_v11, val_main_call1_v10, val_main_call1_v9, val_main_call1_v8, val_main_call1_c_1, val_main_call1_v7,
    val_main_call1_v6, val_main_call1_c_2]
  simp only [word_distance hI]

/-- The distance of a point's `k`-th nearest joint. -/
theorem nth_distance (hI : I.Held x0 x1 x2 x3 x4 x5 x6 x7 x8 x9) (b : Fin 16) (n : Fin 4096) (k : Fin 4) :
    val_main_v15 (F := Ideal) x2 x3 (ix3 b n k) = (sqd (I.X b n) (I.Y b (nth I b n k)) : EReal) := by
  rw [val_main_v15_apply, in_bounds hI]
  exact (gather_entry _ _ b n k _ (word_distance hI b n k 0)).trans (distance hI b n _)

/-- The coordinates of a point's `k`-th nearest joint. -/
theorem nth_xyz (hI : I.Held x0 x1 x2 x3 x4 x5 x6 x7 x8 x9) (b : Fin 16) (n : Fin 4096) (k : Fin 4) (c : Fin 3) :
    val_main_v22 (F := Ideal) x2 x3 (ix4 b n k c) = (I.Y b (nth I b n k) c : EReal) :=
  (gather_row3 _ _ b n k c _ (word_xyz hI b n k 0)).trans (hI.y _ _ _)

/-- The features of a point's `k`-th nearest joint. -/
theorem nth_feat (hI : I.Held x0 x1 x2 x3 x4 x5 x6 x7 x8 x9) (b : Fin 16) (n : Fin 4096) (k : Fin 4) (c : Fin 256) :
    val_main_v43 (F := Ideal) x1 x2 x3 (ix4 b n k c) = (I.JF b (nth I b n k) c : EReal) :=
  (gather_row256 _ _ b n k c _ (word_feat hI b n k 0)).trans (hI.jf _ _ _)

/-- The sum of the weighted distance and offsets, with its additive term. -/
theorem relation (hI : I.Held x0 x1 x2 x3 x4 x5 x6 x7 x8 x9) (b : Fin 16) (n : Fin 4096) (k : Fin 4) :
    val_main_v30 (F := Ideal) x2 x3 x4 x5 (ix3 b n k) = (rel I.w (I.X b n) (I.Y b (nth I b n k)) : EReal) + I.β := by
  have h0 : val_main_v26 (F := Ideal) x2 x3 (ix4 b n k 0) = (sqd (I.X b n) (I.Y b (nth I b n k)) : EReal) := by
    refine Eq.trans ?_ (nth_distance hI b n k)
    pointwise! [val_main_v26]
  have h1 : ∀ c, val_main_v25 (F := Ideal) x2 x3 (ix4 b n k c) = ((I.X b n c - I.Y b (nth I b n k) c : ℝ) : EReal) := fun c => by
    rw [EReal.coe_sub, ← nth_xyz hI, ← hI.x]
    pointwise! [val_main_v25, val_main_v24, val_main_v23]
  pointwise [val_main_v30, val_main_v29, val_main_v28, val_main_v27]
  rw [hI.β]
  refine congrArg (· + I.β) ?_
  simp only [h0, h1, hI.w, Fin.sum_univ_three, Fin.sum_univ_one, ← EReal.coe_mul, ← EReal.coe_add]
  refine congrArg _ (Eq.trans ?_ (by unfold rel; ring_nf : sqd (I.X b n) (I.Y b (nth I b n k)) * I.w 0
    + ((I.X b n 0 - I.Y b (nth I b n k) 0) * I.w 1 + (I.X b n 1 - I.Y b (nth I b n k) 1) * I.w 2 + (I.X b n 2 - I.Y b (nth I b n k) 2) * I.w 3)
      = rel I.w (I.X b n) (I.Y b (nth I b n k))))
  rfl

/-- The gate of a point's `k`-th nearest joint. -/
theorem gated (hI : I.Held x0 x1 x2 x3 x4 x5 x6 x7 x8 x9) (b : Fin 16) (n : Fin 4096) (k : Fin 4) :
    val_main_v36 (F := Ideal) x2 x3 x4 x5 (ix3 b n k) = (gate I.w I.β (I.X b n) (I.Y b (nth I b n k)) : EReal) := by
  rw [← coe_gate, ← relation hI]
  pointwise [val_main_v36, val_main_v35, val_main_cst_4, val_main_v34, val_main_v33, val_main_cst_3, val_main_v32, val_main_v31]
  rfl

/-- The mean of a point's gated features. -/
theorem averaged (hI : I.Held x0 x1 x2 x3 x4 x5 x6 x7 x8 x9) (b : Fin 16) (n : Fin 4096) (c : Fin 256) :
    val_main_v49 (F := Ideal) x1 x2 x3 x4 x5 (ix3 b n c)
      = (((∑ k, I.JF b (nth I b n k) c * gate I.w I.β (I.X b n) (I.Y b (nth I b n k))) / 4 : ℝ) : EReal) := by
  rw [← div_coe _ _ four_ne_zero, ← ofBits_four]
  pointwise [val_main_v49, val_main_v48, val_main_cst_8, val_main_v47, val_main_cst_7, val_main_v46, val_main_v45, val_main_v44]
  simp only [nth_feat hI, gated hI, coe_sum, EReal.coe_mul]

/-- The linear stage. -/
theorem linear (hI : I.Held x0 x1 x2 x3 x4 x5 x6 x7 x8 x9) (b : Fin 16) (n : Fin 4096) (o : Fin 256) :
    val_main_v54 (F := Ideal) x0 x1 x2 x3 x4 x5 x6 x7 (ix3 b n o) = (I.lin (sorted I) o b n : EReal) := by
  have h : I.lin (sorted I) o b n = (∑ c, I.P b n c * I.W o ⟨c.val, by omega⟩)
      + (∑ c, ((∑ k, I.JF b (nth I b n k) c * gate I.w I.β (I.X b n) (I.Y b (nth I b n k))) / 4) * I.W o ⟨256 + c.val, by omega⟩)
      + I.bm o :=
    congrArg (fun s => (∑ c, I.P b n c * I.W o ⟨c.val, by omega⟩) + s + I.bm o)
      (lin_mean (fun c => I.W o ⟨256 + c.val, by omega⟩) _ _).symm
  rw [h, EReal.coe_add, EReal.coe_add, coe_sum, coe_sum]
  pointwise [val_main_v54, val_main_v53, val_main_v52, val_main_v51, val_main_v50]
  simp only [averaged hI, hI.p, hI.W, hI.bm, EReal.coe_mul]

/-- The sum over every point of every cloud. -/
theorem sum_points (v : FVec Ideal S16x4096x256 .f32) (z : FVec Ideal S_ .f32) (hz : ∀ i, z i = 0) (o : Fin 256) :
    Host.reduceAdd v z reducesTo_S16x4096x256_S256_d0_1 h_S_ (ix1 o) = ∑ b : Fin 16, ∑ n : Fin 4096, v (ix3 b n o) := by
  refine Eq.trans (b := z (Shape.Idx.first h_S_) + ∑ i ∈ Finset.univ.filter (fun i => reducesTo_S16x4096x256_S256_d0_1.drop i = ix1 o), v i) rfl ?_
  rw [hz, zero_add, ← Fintype.sum_prod_type' (f := fun b n => v (ix3 b n o))]
  refine Finset.sum_bij' (fun i _ => (i 0, i 1)) (fun p _ => ix3 p.1 p.2 o) (fun i _ => Finset.mem_univ _) (fun p _ => ?_) (fun i hi => ?_)
    (fun p _ => rfl) (fun i hi => ?_)
  · refine Finset.mem_filter.mpr ⟨Finset.mem_univ _, ?_⟩
    funext a; fin_cases a; rfl
  all_goals
    have ho : i 2 = o := congrFun (Finset.mem_filter.mp hi).2 0
    subst ho
  · funext a; fin_cases a <;> rfl
  · refine congrArg v ?_
    funext a; fin_cases a <;> rfl

/-- The mean of an output column. -/
theorem averages (hI : I.Held x0 x1 x2 x3 x4 x5 x6 x7 x8 x9) (o : Fin 256) :
    val_main_v57 (F := Ideal) x0 x1 x2 x3 x4 x5 x6 x7 (ix1 o) = (mean (I.lin (sorted I) o) : EReal) := by
  have h : val_main_v55 (F := Ideal) x0 x1 x2 x3 x4 x5 x6 x7 (ix1 o) = ((∑ b, ∑ n, I.lin (sorted I) o b n : ℝ) : EReal) := by
    refine (sum_points _ _ (fun _ => by pointwise [val_main_cst_9]) o).trans ?_
    simp only [linear hI, coe_sum]
  unfold mean
  rw [← div_coe _ _ (by norm_num), ← ofBits_count, ← h]
  pointwise [val_main_v57, val_main_v56, val_main_cst_10]

/-- A value less its column's mean. -/
theorem centred (hI : I.Held x0 x1 x2 x3 x4 x5 x6 x7 x8 x9) (b : Fin 16) (n : Fin 4096) (o : Fin 256) :
    val_main_call2_v5 (F := Ideal) x0 x1 x2 x3 x4 x5 x6 x7 (ix3 b n o) = ((I.lin (sorted I) o b n - mean (I.lin (sorted I) o) : ℝ) : EReal) := by
  rw [EReal.coe_sub, ← averages hI, ← linear hI]
  pointwise [val_main_call2_v5, val_main_call2_v4, val_main_call2_v3, val_main_call2_v2, val_main_call2_cst_0, val_main_call2_v1, val_main_v57,
    val_main_v56, val_main_cst_10]
  rfl

/-- The number of points, less nothing. -/
theorem count_points : val_main_call2_v8 (F := Ideal) ix0 = ((65536 : ℝ) : EReal) := by
  have h0 : val_main_call2_v7 (F := Ideal) ix0 = 0 := by
    change (((0#32 : BitVec 32).toInt : ℝ) : EReal) = 0
    simp
  refine Eq.trans (b := Ideal.ofBits .f32 0x47800000#32 - val_main_call2_v7 (F := Ideal) ix0) rfl ?_
  rw [h0, ofBits_count, sub_zero]

/-- The variance of an output column. -/
theorem variance (hI : I.Held x0 x1 x2 x3 x4 x5 x6 x7 x8 x9) (o : Fin 256) :
    val_main_v58 (F := Ideal) x0 x1 x2 x3 x4 x5 x6 x7 (ix1 o) = (var (I.lin (sorted I) o) : EReal) := by
  have h : val_main_call2_v9 (F := Ideal) x0 x1 x2 x3 x4 x5 x6 x7 (ix1 o)
      = ((∑ b, ∑ n, (I.lin (sorted I) o b n - mean (I.lin (sorted I) o)) * (I.lin (sorted I) o b n - mean (I.lin (sorted I) o)) : ℝ) : EReal) := by
    refine (sum_points _ _ (fun _ => by pointwise [val_main_call2_cst_2]) o).trans ?_
    simp only [val_main_call2_v6_apply, centred hI, coe_sum, EReal.coe_mul]
    rfl
  have hc : val_main_call2_v12 (F := Ideal) ix0 = 1#1 := by
    pointwise [val_main_call2_v12, val_main_call2_cst_3]
    rw [count_points]
    rw [decide_eq_true (by exact_mod_cast (by norm_num : (0 : ℝ) < 65536))]
    rfl
  unfold var
  rw [← div_coe _ _ (by norm_num), ← count_points, ← h]
  pointwise [val_main_v58, val_main_call2_v11, val_main_call2_v10]
  rw [hc]; rfl

/-- The reference's result is the inputs' normalised linear stage. -/
theorem result (hI : I.Held x0 x1 x2 x3 x4 x5 x6 x7 x8 x9) :
    val_main_v74 (F := Ideal) x0 x1 x2 x3 x4 x5 x6 x7 x8 x9 = fun i : S16x4096x256.Idx => I.out (sorted I) (i 0) (i 1) (i 2) := by
  funext i
  obtain ⟨b, n, o, rfl⟩ : ∃ b n o, i = ix3 b n o := ⟨i 0, i 1, i 2, funext fun a => by fin_cases a <;> rfl⟩
  have hp : 0 < var (I.lin (sorted I) o) + eps := add_pos_of_nonneg_of_pos (var_nonneg _) eps_pos
  have hs : Real.sqrt (var (I.lin (sorted I) o) + eps) ≠ 0 := (Real.sqrt_pos.mpr hp).ne'
  change _ = max ((((I.lin (sorted I) o b n - mean (I.lin (sorted I) o)) / Real.sqrt (var (I.lin (sorted I) o) + eps) * I.γ o : ℝ) : EReal) + I.δ o) 0
  rw [EReal.coe_mul, ← div_coe _ _ hs, ← sqrt_coe _ hp.le, EReal.coe_sub, EReal.coe_add, ← variance hI, ← averages hI, ← linear hI, ← ofBits_eps,
    ← hI.γ, ← hI.δ]
  pointwise [val_main_v74, val_main_call3_v0, val_main_call3_cst, val_main_v73, val_main_v72, val_main_v71, val_main_v70, val_main_v69, val_main_v68,
    val_main_v67, val_main_v66, val_main_v65, val_main_v64, val_main_v63, val_main_v62, val_main_cst_12, val_main_v61, val_main_v60, val_main_v59]

end Cert.ReferenceIdeal.Val

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_tame
public import proofs.«01_k».proof.Proof.KernelRun
public import proofs.«01_k».proof.Proof.Pre
public import proofs.«01_k».proof.Proof.Ref
public import Idealize.ShloMosaic.Adequacy
public import Idealize.ShloMosaic.Lib.Claim
public import Idealize.ShloMosaic.Lib.Quiescent
public import Idealize.ShloMosaic.Init

@[expose] public section

noncomputable section

namespace Cert.Proof

open Idealize.ShloMosaic Idealize.SL.Sem Cert.Kernel Cert.Knn

/-- The reference runs, its arguments are kept and no semaphore is left raised. -/
theorem reference_frame : @Cert.quiescent_ReferenceIdeal Cert.ReferenceIdeal.Gen.facts := fun m g _ =>
  (θ_run _ _ _).mono (fun r h => ⟨fun c => (h c).2, sem_eq_zero_of_no_sems (sig := Cert.ReferenceIdeal.sig) rfl r.2⟩)
    (Cert.ReferenceIdeal.Value.run m g)

/-- Under the precondition a device's arguments hold real inputs, and each point's joints in order of their distance are
    ordered as the kernel's selection needs. -/
theorem inputs_of_pre {m : (ℓ : Loc Cert.KernelIdeal.nD Cert.KernelIdeal.τ Cert.KernelIdeal.sig) → Buf (Elt Ideal) ℓ}
    (h : @Cert.Pre_KernelIdeal_tame Cert.Pre_tame.Gen.facts m) (c : Dev Cert.KernelIdeal.nD) :
    ∃ I : Inputs, Cert.KernelIdeal.Val.HeldAt m I c
      ∧ ∀ b n, Ordered (fun i => near (I.X b n) (I.Y b i)) (Cert.ReferenceIdeal.Val.sorted I b n) := by
  obtain ⟨I, hI⟩ := @Cert.Pre_tame.exists_inputs Cert.Pre_tame.Gen.facts _ _ _ _ _ _ _ _ _ _ (fun i => congrFun (h c) i)
  exact ⟨I, hI, fun b n => (@Cert.Pre_tame.ordered Cert.Pre_tame.Gen.facts _ _ _ _ _ _ _ _ _ _ I hI (fun i => congrFun (h c) i) b n).of_add
    (fun i => sqd_eq_near _ _)⟩

/-- Equal arguments hold the same inputs. -/
theorem held_of_eq {I : Inputs} {a0 b0 : (⟨3, ![16, 4096, 256]⟩ : Shape).Idx → EReal} {a1 b1 : (⟨3, ![16, 21, 256]⟩ : Shape).Idx → EReal}
    {a2 b2 : (⟨3, ![16, 4096, 3]⟩ : Shape).Idx → EReal} {a3 b3 : (⟨3, ![16, 21, 3]⟩ : Shape).Idx → EReal}
    {a4 b4 : (⟨1, ![4]⟩ : Shape).Idx → EReal} {a5 b5 : (⟨0, ![]⟩ : Shape).Idx → EReal} {a6 b6 : (⟨2, ![256, 512]⟩ : Shape).Idx → EReal}
    {a7 a8 a9 b7 b8 b9 : (⟨1, ![256]⟩ : Shape).Idx → EReal} (h : I.Held a0 a1 a2 a3 a4 a5 a6 a7 a8 a9)
    (e : b0 = a0 ∧ b1 = a1 ∧ b2 = a2 ∧ b3 = a3 ∧ b4 = a4 ∧ b5 = a5 ∧ b6 = a6 ∧ b7 = a7 ∧ b8 = a8 ∧ b9 = a9) :
    I.Held b0 b1 b2 b3 b4 b5 b6 b7 b8 b9 := by
  obtain ⟨rfl, rfl, rfl, rfl, rfl, rfl, rfl, rfl, rfl, rfl⟩ := e
  exact h

/-- The kernel and the reference, run on the same arguments, both return the normalised linear stage of the inputs. -/
theorem values : @Cert.algebraic_KernelIdeal_ReferenceIdeal_pre_tame Cert.KernelIdeal.Gen.facts Cert.ReferenceIdeal.Gen.facts Cert.Pre_tame.Gen.facts := by
  intro m g m' g' hpre hm
  choose I hI ho using inputs_of_pre hpre
  refine ⟨fun c => fun i : Cert.KernelIdeal.S16x4096x256.Idx => (I c).out (Cert.ReferenceIdeal.Val.sorted (I c)) (i 0) (i 1) (i 2),
    (θ_run _ _ _).mono (fun r h c => ⟨(h c).1.trans (Cert.KernelIdeal.Val.result g (hI c) (ho c)), (h c).2⟩) (Cert.KernelIdeal.Val.run m g),
    (θ_run _ _ _).mono (fun r h c => ⟨(h c).1.trans ((Cert.ReferenceIdeal.Read.val_main_v74_eq _).trans (Cert.ReferenceIdeal.Val.result ?_)), (h c).2⟩)
      (Cert.ReferenceIdeal.Value.run m' g')⟩
  exact held_of_eq (hI c) (hm c)

/-- Every claim. -/
theorem claim : Cert.Claim := ⟨Cert.Kernel.Gen.facts, Cert.KernelIdeal.Gen.facts, Cert.ReferenceIdeal.Gen.facts, Cert.Pre_tame.Gen.facts,
  fun m ρ _ => Cert.Kernel.Gen.frame m ρ, fun m ρ _ => Cert.KernelIdeal.Gen.frame m ρ, fun m ρ _ => Cert.KernelIdeal.Gen.frame m ρ,
  reference_frame, fun m g _ => reference_frame m g trivial, trivial, values⟩

end Cert.Proof

end
